-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S32x512x3 : Shape := ⟨3, ![32, 512, 3]⟩
abbrev S32x512 : Shape := ⟨2, ![32, 512]⟩
abbrev S32x512x3x20x2 : Shape := ⟨5, ![32, 512, 3, 20, 2]⟩
abbrev S32x512x3x20 : Shape := ⟨4, ![32, 512, 3, 20]⟩
abbrev S32x512x20 : Shape := ⟨3, ![32, 512, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S_ : Shape := ⟨0, ![]⟩
abbrev S32x512x1x20x2 : Shape := ⟨5, ![32, 512, 1, 20, 2]⟩
abbrev S32x512x20x2 : Shape := ⟨4, ![32, 512, 20, 2]⟩
abbrev S32x512x2 : Shape := ⟨3, ![32, 512, 2]⟩
abbrev S32x512x1x2 : Shape := ⟨4, ![32, 512, 1, 2]⟩
abbrev S32x512x20x1 : Shape := ⟨4, ![32, 512, 20, 1]⟩
abbrev S32x512x1x20 : Shape := ⟨4, ![32, 512, 1, 20]⟩
abbrev S256x256 : Shape := ⟨2, ![256, 256]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  slices_S32x512x3x20x2_S32x512x1x20x2_0_0_0_0_0 : S32x512x3x20x2.Slices ![0, 0, 0, 0, 0] S32x512x1x20x2
  shapeCasts_S32x512x1x20x2_S32x512x20x2 : S32x512x1x20x2.ShapeCasts S32x512x20x2
  slices_S32x512x3_S32x512x2_0_0_0 : S32x512x3.Slices ![0, 0, 0] S32x512x2
  bcast_S32x512x2_S32x512x1x2_0_1_3 : S32x512x2.BroadcastsInDim S32x512x1x2 (![0, 1, 3] : Fin 3 → Fin S32x512x1x2.rank)
  bcast_S32x512x1x2_S32x512x20x2_0_1_2_3 : S32x512x1x2.BroadcastsInDim S32x512x20x2 (![0, 1, 2, 3] : Fin 4 → Fin S32x512x20x2.rank)
  bcast_S32x512x20_S32x512x20x1_0_1_2 : S32x512x20.BroadcastsInDim S32x512x20x1 (![0, 1, 2] : Fin 3 → Fin S32x512x20x1.rank)
  bcast_S32x512x20x1_S32x512x20x2_0_1_2_3 : S32x512x20x1.BroadcastsInDim S32x512x20x2 (![0, 1, 2, 3] : Fin 4 → Fin S32x512x20x2.rank)
  bcast_S_S32x512x20x2 : S_.BroadcastsInDim S32x512x20x2 (![] : Fin 0 → Fin S32x512x20x2.rank)
  reducesTo_S32x512x20x2_S_d0_1_2_3 : S32x512x20x2.ReducesTo [0, 1, 2, 3] S_
  slices_S32x512x3x20_S32x512x1x20_0_0_0_0 : S32x512x3x20.Slices ![0, 0, 0, 0] S32x512x1x20
  shapeCasts_S32x512x1x20_S32x512x20 : S32x512x1x20.ShapeCasts S32x512x20
  bcast_S_S32x512x20 : S_.BroadcastsInDim S32x512x20 (![] : Fin 0 → Fin S32x512x20.rank)
  reducesTo_S32x512x20_S_d0_1_2 : S32x512x20.ReducesTo [0, 1, 2] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  slices_S512x256_S256x256_0_0 : S512x256.Slices ![0, 0] S256x256
  bcast_S_S256x256 : S_.BroadcastsInDim S256x256 (![] : Fin 0 → Fin S256x256.rank)
  reducesTo_S256x256_S_d0_1 : S256x256.ReducesTo [0, 1] S_

variable [Facts]

def fn_where {F : FTy → Type} [FloatOps F] (arg0 : IVec S32x512x20x1 1) (arg1 : FVec F S32x512x20x2 .f32) (arg2 : FVec F S_ .f32) : FVec F S32x512x20x2 .f32 :=
  let v0 : FVec F S_ .f32 := id arg2
  let v1 : IVec S32x512x20x2 1 := broadcastInDim S32x512x20x2 ![0, 1, 2, 3] bcast_S32x512x20x1_S32x512x20x2_0_1_2_3 arg0
  let v2 : FVec F S32x512x20x2 .f32 := broadcastInDim S32x512x20x2 ![] bcast_S_S32x512x20x2 v0
  let v3 : FVec F S32x512x20x2 .f32 := select v1 arg1 v2
  v3

def fn_where_0 {F : FTy → Type} [FloatOps F] (arg0 : IVec S32x512x20 1) (arg1 : FVec F S32x512x20 .f32) (arg2 : FVec F S_ .f32) : FVec F S32x512x20 .f32 :=
  let v0 : FVec F S_ .f32 := id arg2
  let v1 : FVec F S32x512x20 .f32 := broadcastInDim S32x512x20 ![] bcast_S_S32x512x20 v0
  let v2 : FVec F S32x512x20 .f32 := select arg0 arg1 v1
  v2

def fn_part4 {F : FTy → Type} [FloatOps F] (main_v64 : IVec S_ 1) (main_v69 : IVec S_ 1) : IVec S_ 1 :=
  let main_v70 : IVec S_ 1 := andi main_v64 main_v69
  main_v70

def fn_part3 {F : FTy → Type} [FloatOps F] (main_arg11 : FVec F S128 .f32) (main_arg12 : FVec F S128x256 .f32) (main_arg14 : FVec F S512x256 .f32) (main_v49 : IVec S_ 1) (main_v52 : IVec S6x128 1) : IVec S_ 1 :=
  let main_c_17 : IVec S_ 1 := constantI S_ 1 1#1
  let main_v53 : IVec S_ 1 := (fun x v => Host.reduce IntOp.andi x v reducesTo_S6x128_S_d0_1 h_S_) main_v52 main_c_17
  let main_v54 : IVec S_ 1 := andi main_v49 main_v53
  let main_v55 : FVec F S128 .f32 := subf main_arg11 main_arg11
  let main_cst_18 : FVec F S_ .f32 := constant S_ .f32 0x00000000#32
  let main_v56 : FVec F S128 .f32 := broadcastInDim S128 ![] bcast_S_S128 main_cst_18
  let main_v57 : IVec S128 1 := cmpf .oeq main_v55 main_v56
  let main_c_19 : IVec S_ 1 := constantI S_ 1 1#1
  let main_v58 : IVec S_ 1 := (fun x v => Host.reduce IntOp.andi x v reducesTo_S128_S_d0 h_S_) main_v57 main_c_19
  let main_v59 : IVec S_ 1 := andi main_v54 main_v58
  let main_v60 : FVec F S128x256 .f32 := subf main_arg12 main_arg12
  let main_cst_20 : FVec F S_ .f32 := constant S_ .f32 0x00000000#32
  let main_v61 : FVec F S128x256 .f32 := broadcastInDim S128x256 ![] bcast_S_S128x256 main_cst_20
  let main_v62 : IVec S128x256 1 := cmpf .oeq main_v60 main_v61
  let main_c_21 : IVec S_ 1 := constantI S_ 1 1#1
  let main_v63 : IVec S_ 1 := (fun x v => Host.reduce IntOp.andi x v reducesTo_S128x256_S_d0_1 h_S_) main_v62 main_c_21
  let main_v64 : IVec S_ 1 := andi main_v59 main_v63
  let main_v65 : FVec F S256x256 .f32 := (extractStridedSlice S256x256 ![0, 0] · slices_S512x256_S256x256_0_0) main_arg14
  let main_v66 : FVec F S256x256 .f32 := subf main_v65 main_v65
  let main_cst_22 : FVec F S_ .f32 := constant S_ .f32 0x00000000#32
  let main_v67 : FVec F S256x256 .f32 := broadcastInDim S256x256 ![] bcast_S_S256x256 main_cst_22
  let main_v68 : IVec S256x256 1 := cmpf .oeq main_v66 main_v67
  let main_c_23 : IVec S_ 1 := constantI S_ 1 1#1
  let main_v69 : IVec S_ 1 := (fun x v => Host.reduce IntOp.andi x v reducesTo_S256x256_S_d0_1 h_S_) main_v68 main_c_23
  fn_part4 (F := F) main_v64 main_v69

def fn_part2 {F : FTy → Type} [FloatOps F] (main_arg8 : FVec F S32x512x3x20 .f32) (main_arg9 : IVec S32x512x20 1) (main_arg10 : FVec F S6x128 .f32) (main_arg11 : FVec F S128 .f32) (main_arg12 : FVec F S128x256 .f32) (main_arg14 : FVec F S512x256 .f32) (main_v32 : IVec S_ 1) (main_v34 : FVec F S32x512x20x2 .f32) (main_v35 : IVec S32x512x20x1 1) : IVec S_ 1 :=
  let main_cst_10 : FVec F S_ .f32 := constant S_ .f32 0x00000000#32
  let main_v36 : FVec F S32x512x20x2 .f32 := fn_where (F := F) main_v35 main_v34 main_cst_10
  let main_v37 : FVec F S32x512x20x2 .f32 := subf main_v36 main_v36
  let main_cst_11 : FVec F S_ .f32 := constant S_ .f32 0x00000000#32
  let main_v38 : FVec F S32x512x20x2 .f32 := broadcastInDim S32x512x20x2 ![] bcast_S_S32x512x20x2 main_cst_11
  let main_v39 : IVec S32x512x20x2 1 := cmpf .oeq main_v37 main_v38
  let main_c_12 : IVec S_ 1 := constantI S_ 1 1#1
  let main_v40 : IVec S_ 1 := (fun x v => Host.reduce IntOp.andi x v reducesTo_S32x512x20x2_S_d0_1_2_3 h_S_) main_v39 main_c_12
  let main_v41 : IVec S_ 1 := andi main_v32 main_v40
  let main_v42 : FVec F S32x512x1x20 .f32 := (extractStridedSlice S32x512x1x20 ![0, 0, 0, 0] · slices_S32x512x3x20_S32x512x1x20_0_0_0_0) main_arg8
  let main_v43 : FVec F S32x512x20 .f32 := shapeCast S32x512x20 main_v42 shapeCasts_S32x512x1x20_S32x512x20
  let main_cst_13 : FVec F S_ .f32 := constant S_ .f32 0x00000000#32
  let main_v44 : FVec F S32x512x20 .f32 := fn_where_0 (F := F) main_arg9 main_v43 main_cst_13
  let main_v45 : FVec F S32x512x20 .f32 := subf main_v44 main_v44
  let main_cst_14 : FVec F S_ .f32 := constant S_ .f32 0x00000000#32
  let main_v46 : FVec F S32x512x20 .f32 := broadcastInDim S32x512x20 ![] bcast_S_S32x512x20 main_cst_14
  let main_v47 : IVec S32x512x20 1 := cmpf .oeq main_v45 main_v46
  let main_c_15 : IVec S_ 1 := constantI S_ 1 1#1
  let main_v48 : IVec S_ 1 := (fun x v => Host.reduce IntOp.andi x v reducesTo_S32x512x20_S_d0_1_2 h_S_) main_v47 main_c_15
  let main_v49 : IVec S_ 1 := andi main_v41 main_v48
  let main_v50 : FVec F S6x128 .f32 := subf main_arg10 main_arg10
  let main_cst_16 : FVec F S_ .f32 := constant S_ .f32 0x00000000#32
  let main_v51 : FVec F S6x128 .f32 := broadcastInDim S6x128 ![] bcast_S_S6x128 main_cst_16
  let main_v52 : IVec S6x128 1 := cmpf .oeq main_v50 main_v51
  fn_part3 (F := F) main_arg11 main_arg12 main_arg14 main_v49 main_v52

def fn_part1 {F : FTy → Type} [FloatOps F] (main_arg0 : FVec F S32x512x3 .f32) (main_arg3 : IVec S32x512 32) (main_arg6 : FVec F S32x512x3x20x2 .f32) (main_arg7 : FVec F S32x512x3x20x2 .f32) (main_arg8 : FVec F S32x512x3x20 .f32) (main_arg9 : IVec S32x512x20 1) (main_arg10 : FVec F S6x128 .f32) (main_arg11 : FVec F S128 .f32) (main_arg12 : FVec F S128x256 .f32) (main_arg14 : FVec F S512x256 .f32) (main_v12 : IVec S_ 1) (main_v14 : IVec S32x512 1) (main_v15 : IVec S32x512 32) : IVec S_ 1 :=
  let main_v16 : IVec S32x512 1 := cmpi .slt main_arg3 main_v15
  let main_v17 : IVec S32x512 1 := andi main_v14 main_v16
  let main_c_7 : IVec S_ 1 := constantI S_ 1 1#1
  let main_v18 : IVec S_ 1 := (fun x v => Host.reduce IntOp.andi x v reducesTo_S32x512_S_d0_1 h_S_) main_v17 main_c_7
  let main_v19 : IVec S_ 1 := andi main_v12 main_v18
  let main_v20 : FVec F S32x512x1x20x2 .f32 := (extractStridedSlice S32x512x1x20x2 ![0, 0, 0, 0, 0] · slices_S32x512x3x20x2_S32x512x1x20x2_0_0_0_0_0) main_arg6
  let main_v21 : FVec F S32x512x20x2 .f32 := shapeCast S32x512x20x2 main_v20 shapeCasts_S32x512x1x20x2_S32x512x20x2
  let main_v22 : FVec F S32x512x2 .f32 := (extractStridedSlice S32x512x2 ![0, 0, 0] · slices_S32x512x3_S32x512x2_0_0_0) main_arg0
  let main_v23 : FVec F S32x512x1x2 .f32 := broadcastInDim S32x512x1x2 ![0, 1, 3] bcast_S32x512x2_S32x512x1x2_0_1_3 main_v22
  let main_v24 : FVec F S32x512x20x2 .f32 := broadcastInDim S32x512x20x2 ![0, 1, 2, 3] bcast_S32x512x1x2_S32x512x20x2_0_1_2_3 main_v23
  let main_v25 : FVec F S32x512x20x2 .f32 := subf main_v21 main_v24
  let main_v26 : IVec S32x512x20x1 1 := broadcastInDim S32x512x20x1 ![0, 1, 2] bcast_S32x512x20_S32x512x20x1_0_1_2 main_arg9
  let main_cst : FVec F S_ .f32 := constant S_ .f32 0x00000000#32
  let main_v27 : FVec F S32x512x20x2 .f32 := fn_where (F := F) main_v26 main_v25 main_cst
  let main_v28 : FVec F S32x512x20x2 .f32 := subf main_v27 main_v27
  let main_cst_8 : FVec F S_ .f32 := constant S_ .f32 0x00000000#32
  let main_v29 : FVec F S32x512x20x2 .f32 := broadcastInDim S32x512x20x2 ![] bcast_S_S32x512x20x2 main_cst_8
  let main_v30 : IVec S32x512x20x2 1 := cmpf .oeq main_v28 main_v29
  let main_c_9 : IVec S_ 1 := constantI S_ 1 1#1
  let main_v31 : IVec S_ 1 := (fun x v => Host.reduce IntOp.andi x v reducesTo_S32x512x20x2_S_d0_1_2_3 h_S_) main_v30 main_c_9
  let main_v32 : IVec S_ 1 := andi main_v19 main_v31
  let main_v33 : FVec F S32x512x1x20x2 .f32 := (extractStridedSlice S32x512x1x20x2 ![0, 0, 0, 0, 0] · slices_S32x512x3x20x2_S32x512x1x20x2_0_0_0_0_0) main_arg7
  let main_v34 : FVec F S32x512x20x2 .f32 := shapeCast S32x512x20x2 main_v33 shapeCasts_S32x512x1x20x2_S32x512x20x2
  let main_v35 : IVec S32x512x20x1 1 := broadcastInDim S32x512x20x1 ![0, 1, 2] bcast_S32x512x20_S32x512x20x1_0_1_2 main_arg9
  fn_part2 (F := F) main_arg8 main_arg9 main_arg10 main_arg11 main_arg12 main_arg14 main_v32 main_v34 main_v35

def fn {F : FTy → Type} [FloatOps F] (main_arg0 : FVec F S32x512x3 .f32) (main_arg1 : IVec S32x512 32) (main_arg2 : IVec S32x512 32) (main_arg3 : IVec S32x512 32) (main_arg4 : IVec S32x512 1) (main_arg5 : FVec F S32x512 .f32) (main_arg6 : FVec F S32x512x3x20x2 .f32) (main_arg7 : FVec F S32x512x3x20x2 .f32) (main_arg8 : FVec F S32x512x3x20 .f32) (main_arg9 : IVec S32x512x20 1) (main_arg10 : FVec F S6x128 .f32) (main_arg11 : FVec F S128 .f32) (main_arg12 : FVec F S128x256 .f32) (main_arg13 : FVec F S256 .f32) (main_arg14 : FVec F S512x256 .f32) (main_arg15 : FVec F S256 .f32) (main_arg16 : FVec F S256x128 .f32) (main_arg17 : FVec F S128 .f32) (main_arg18 : FVec F S1x128 .f32) (main_arg19 : FVec F S128 .f32) (main_arg20 : FVec F S128x128 .f32) (main_arg21 : FVec F S128 .f32) (main_arg22 : FVec F S3x128 .f32) (main_arg23 : FVec F S2x128 .f32) (main_arg24 : FVec F S4x128 .f32) (main_arg25 : FVec F S1x128 .f32) : IVec S_ 1 :=
  let main_c : IVec S_ 32 := constantI S_ 32 0#32
  let main_v0 : IVec S32x512 32 := broadcastInDim S32x512 ![] bcast_S_S32x512 main_c
  let main_v1 : IVec S32x512 1 := cmpi .sge main_arg1 main_v0
  let main_c_0 : IVec S_ 32 := constantI S_ 32 3#32
  let main_v2 : IVec S32x512 32 := broadcastInDim S32x512 ![] bcast_S_S32x512 main_c_0
  let main_v3 : IVec S32x512 1 := cmpi .slt main_arg1 main_v2
  let main_v4 : IVec S32x512 1 := andi main_v1 main_v3
  let main_c_1 : IVec S_ 1 := constantI S_ 1 1#1
  let main_v5 : IVec S_ 1 := (fun x v => Host.reduce IntOp.andi x v reducesTo_S32x512_S_d0_1 h_S_) main_v4 main_c_1
  let main_c_2 : IVec S_ 32 := constantI S_ 32 0#32
  let main_v6 : IVec S32x512 32 := broadcastInDim S32x512 ![] bcast_S_S32x512 main_c_2
  let main_v7 : IVec S32x512 1 := cmpi .sge main_arg2 main_v6
  let main_c_3 : IVec S_ 32 := constantI S_ 32 2#32
  let main_v8 : IVec S32x512 32 := broadcastInDim S32x512 ![] bcast_S_S32x512 main_c_3
  let main_v9 : IVec S32x512 1 := cmpi .slt main_arg2 main_v8
  let main_v10 : IVec S32x512 1 := andi main_v7 main_v9
  let main_c_4 : IVec S_ 1 := constantI S_ 1 1#1
  let main_v11 : IVec S_ 1 := (fun x v => Host.reduce IntOp.andi x v reducesTo_S32x512_S_d0_1 h_S_) main_v10 main_c_4
  let main_v12 : IVec S_ 1 := andi main_v5 main_v11
  let main_c_5 : IVec S_ 32 := constantI S_ 32 0#32
  let main_v13 : IVec S32x512 32 := broadcastInDim S32x512 ![] bcast_S_S32x512 main_c_5
  let main_v14 : IVec S32x512 1 := cmpi .sge main_arg3 main_v13
  let main_c_6 : IVec S_ 32 := constantI S_ 32 4#32
  let main_v15 : IVec S32x512 32 := broadcastInDim S32x512 ![] bcast_S_S32x512 main_c_6
  fn_part1 (F := F) main_arg0 main_arg3 main_arg6 main_arg7 main_arg8 main_arg9 main_arg10 main_arg11 main_arg12 main_arg14 main_v12 main_v14 main_v15
-- ==== Kernel.lean ====
abbrev S32x512x3 : Shape := ⟨3, ![32, 512, 3]⟩
abbrev S32x512 : Shape := ⟨2, ![32, 512]⟩
abbrev S32x512x3x20x2 : Shape := ⟨5, ![32, 512, 3, 20, 2]⟩
abbrev S32x512x3x20 : Shape := ⟨4, ![32, 512, 3, 20]⟩
abbrev S32x512x20 : Shape := ⟨3, ![32, 512, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S32x512x1x20x2 : Shape := ⟨5, ![32, 512, 1, 20, 2]⟩
abbrev S32x512x20x2 : Shape := ⟨4, ![32, 512, 20, 2]⟩
abbrev S16384x20x2 : Shape := ⟨3, ![16384, 20, 2]⟩
abbrev S32x512x2 : Shape := ⟨3, ![32, 512, 2]⟩
abbrev S32x512x1x2 : Shape := ⟨4, ![32, 512, 1, 2]⟩
abbrev S16384x1x2 : Shape := ⟨3, ![16384, 1, 2]⟩
abbrev S16384x20x1 : Shape := ⟨3, ![16384, 20, 1]⟩
abbrev S16384x20 : Shape := ⟨2, ![16384, 20]⟩
abbrev S32x512x1x20x1 : Shape := ⟨5, ![32, 512, 1, 20, 1]⟩
abbrev S1x16384x20 : Shape := ⟨3, ![1, 16384, 20]⟩
abbrev S5x16384x20 : Shape := ⟨3, ![5, 16384, 20]⟩
abbrev S5x32x512x20 : Shape := ⟨4, ![5, 32, 512, 20]⟩
abbrev S32x5x20x512 : Shape := ⟨4, ![32, 5, 20, 512]⟩
abbrev S32x5x10240 : Shape := ⟨3, ![32, 5, 10240]⟩
abbrev S32x512x1x20 : Shape := ⟨4, ![32, 512, 1, 20]⟩
abbrev S32x20x512 : Shape := ⟨3, ![32, 20, 512]⟩
abbrev S32x1x10240 : Shape := ⟨3, ![32, 1, 10240]⟩
abbrev S_ : Shape := ⟨0, ![]⟩
abbrev S16384x1 : Shape := ⟨2, ![16384, 1]⟩
abbrev S1x7 : Shape := ⟨2, ![1, 7]⟩
abbrev S1 : Shape := ⟨1, ![1]⟩
abbrev S2 : Shape := ⟨1, ![2]⟩
abbrev S128x6 : Shape := ⟨2, ![128, 6]⟩
abbrev S128x1 : Shape := ⟨2, ![128, 1]⟩
abbrev S128x7 : Shape := ⟨2, ![128, 7]⟩
abbrev S129x7 : Shape := ⟨2, ![129, 7]⟩
abbrev S1x257 : Shape := ⟨2, ![1, 257]⟩
abbrev S256x1 : Shape := ⟨2, ![256, 1]⟩
abbrev S256x129 : Shape := ⟨2, ![256, 129]⟩
abbrev S1x129 : Shape := ⟨2, ![1, 129]⟩
abbrev S257x129 : Shape := ⟨2, ![257, 129]⟩
abbrev S256x256 : Shape := ⟨2, ![256, 256]⟩
abbrev S256x257 : Shape := ⟨2, ![256, 257]⟩
abbrev S257x257 : Shape := ⟨2, ![257, 257]⟩
abbrev S128x257 : Shape := ⟨2, ![128, 257]⟩
abbrev S3x1x1x128 : Shape := ⟨4, ![3, 1, 1, 128]⟩
abbrev S1x4x1x128 : Shape := ⟨4, ![1, 4, 1, 128]⟩
abbrev S3x4x1x128 : Shape := ⟨4, ![3, 4, 1, 128]⟩
abbrev S1x1x2x128 : Shape := ⟨4, ![1, 1, 2, 128]⟩
abbrev S3x4x2x128 : Shape := ⟨4, ![3, 4, 2, 128]⟩
abbrev S24x128 : Shape := ⟨2, ![24, 128]⟩
abbrev S16384x128 : Shape := ⟨2, ![16384, 128]⟩
abbrev S1x5x10240 : Shape := ⟨3, ![1, 5, 10240]⟩
abbrev S1x1x10240 : Shape := ⟨3, ![1, 1, 10240]⟩
abbrev S512x1 : Shape := ⟨2, ![512, 1]⟩
abbrev S512x128 : Shape := ⟨2, ![512, 128]⟩
abbrev S1x10240 : Shape := ⟨2, ![1, 10240]⟩
abbrev S5x10240 : Shape := ⟨2, ![5, 10240]⟩
abbrev S4x10240 : Shape := ⟨2, ![4, 10240]⟩
abbrev S7x10240 : Shape := ⟨2, ![7, 10240]⟩
abbrev S129x10240 : Shape := ⟨2, ![129, 10240]⟩
abbrev S257x10240 : Shape := ⟨2, ![257, 10240]⟩
abbrev S257x512 : Shape := ⟨2, ![257, 512]⟩
abbrev S128x10240 : Shape := ⟨2, ![128, 10240]⟩
abbrev S128x512 : Shape := ⟨2, ![128, 512]⟩
abbrev S512x24 : Shape := ⟨2, ![512, 24]⟩

abbrev nBuf : Space → Nat
  | .hbm => 142
  | .vmem => 23
  | .smem => 0
  | _ => 0

abbrev hbmTy0_0 (i : Nat) : BufTy := match i % 128 with
  | 0 => ⟨S32x512x3, .f32⟩
  | 1 => ⟨S32x512, .i32⟩
  | 2 => ⟨S32x512, .i32⟩
  | 3 => ⟨S32x512, .i32⟩
  | 4 => ⟨S32x512, .i1⟩
  | 5 => ⟨S32x512, .f32⟩
  | 6 => ⟨S32x512x3x20x2, .f32⟩
  | 7 => ⟨S32x512x3x20x2, .f32⟩
  | 8 => ⟨S32x512x3x20, .f32⟩
  | 9 => ⟨S32x512x20, .i1⟩
  | 10 => ⟨S6x128, .f32⟩
  | 11 => ⟨S128, .f32⟩
  | 12 => ⟨S128x256, .f32⟩
  | 13 => ⟨S256, .f32⟩
  | 14 => ⟨S512x256, .f32⟩
  | 15 => ⟨S256, .f32⟩
  | 16 => ⟨S256x128, .f32⟩
  | 17 => ⟨S128, .f32⟩
  | 18 => ⟨S1x128, .f32⟩
  | 19 => ⟨S128, .f32⟩
  | 20 => ⟨S128x128, .f32⟩
  | 21 => ⟨S128, .f32⟩
  | 22 => ⟨S3x128, .f32⟩
  | 23 => ⟨S2x128, .f32⟩
  | 24 => ⟨S4x128, .f32⟩
  | 25 => ⟨S1x128, .f32⟩
  | 26 => ⟨S32x512x1x20x2, .f32⟩
  | 27 => ⟨S32x512x20x2, .f32⟩
  | 28 => ⟨S16384x20x2, .f32⟩
  | 29 => ⟨S32x512x2, .f32⟩
  | 30 => ⟨S32x512x1x2, .f32⟩
  | 31 => ⟨S16384x1x2, .f32⟩
  | 32 => ⟨S16384x20x2, .f32⟩
  | 33 => ⟨S16384x20x2, .f32⟩
  | 34 => ⟨S16384x20x1, .f32⟩
  | 35 => ⟨S16384x20, .f32⟩
  | 36 => ⟨S16384x20x1, .f32⟩
  | 37 => ⟨S16384x20, .f32⟩
  | 38 => ⟨S32x512x1x20x1, .f32⟩
  | 39 => ⟨S32x512x20, .f32⟩
  | 40 => ⟨S16384x20, .f32⟩
  | 41 => ⟨S32x512x1x20x1, .f32⟩
  | 42 => ⟨S32x512x20, .f32⟩
  | 43 => ⟨S16384x20, .f32⟩
  | 44 => ⟨S16384x20, .i1⟩
  | 45 => ⟨S16384x20, .f32⟩
  | 46 => ⟨S1x16384x20, .f32⟩
  | 47 => ⟨S1x16384x20, .f32⟩
  | 48 => ⟨S1x16384x20, .f32⟩
  | 49 => ⟨S1x16384x20, .f32⟩
  | 50 => ⟨S1x16384x20, .f32⟩
  | 51 => ⟨S5x16384x20, .f32⟩
  | 52 => ⟨S5x16384x20, .bf16⟩
  | 53 => ⟨S5x32x512x20, .bf16⟩
  | 54 => ⟨S32x5x20x512, .bf16⟩
  | 55 => ⟨S32x5x10240, .bf16⟩
  | 56 => ⟨S32x512x1x20, .f32⟩
  | 57 => ⟨S32x512x20, .f32⟩
  | 58 => ⟨S32x20x512, .f32⟩
  | 59 => ⟨S32x1x10240, .f32⟩
  | 60 => ⟨S_, .i32⟩
  | 61 => ⟨S32x512, .i32⟩
  | 62 => ⟨S32x512, .i32⟩
  | 63 => ⟨S_, .i32⟩
  | 64 => ⟨S32x512, .i32⟩
  | 65 => ⟨S32x512, .i32⟩
  | 66 => ⟨S32x512, .i32⟩
  | 67 => ⟨S32x512, .i32⟩
  | 68 => ⟨S16384x1, .i32⟩
  | 69 => ⟨S16384x1, .i1⟩
  | 70 => ⟨S16384x1, .f32⟩
  | 71 => ⟨S16384x1, .f32⟩
  | 72 => ⟨S_, .f32⟩
  | 73 => ⟨S1x7, .f32⟩
  | 74 => ⟨S_, .i32⟩
  | 75 => ⟨S1, .i32⟩
  | 76 => ⟨S_, .i32⟩
  | 77 => ⟨S1, .i32⟩
  | 78 => ⟨S2, .i32⟩
  | 79 => ⟨S_, .f32⟩
  | 80 => ⟨S1x7, .f32⟩
  | 81 => ⟨S128x6, .f32⟩
  | 82 => ⟨S128x1, .f32⟩
  | 83 => ⟨S128x7, .f32⟩
  | 84 => ⟨S129x7, .f32⟩
  | 85 => ⟨S129x7, .bf16⟩
  | 86 => ⟨S_, .f32⟩
  | 87 => ⟨S1x257, .f32⟩
  | 88 => ⟨S_, .i32⟩
  | 89 => ⟨S1, .i32⟩
  | 90 => ⟨S_, .i32⟩
  | 91 => ⟨S1, .i32⟩
  | 92 => ⟨S2, .i32⟩
  | 93 => ⟨S_, .f32⟩
  | 94 => ⟨S1x257, .f32⟩
  | 95 => ⟨S256x128, .f32⟩
  | 96 => ⟨S256x1, .f32⟩
  | 97 => ⟨S256x129, .f32⟩
  | 98 => ⟨S_, .f32⟩
  | 99 => ⟨S1x129, .f32⟩
  | 100 => ⟨S_, .i32⟩
  | 101 => ⟨S1, .i32⟩
  | 102 => ⟨S_, .i32⟩
  | 103 => ⟨S1, .i32⟩
  | 104 => ⟨S2, .i32⟩
  | 105 => ⟨S_, .f32⟩
  | 106 => ⟨S1x129, .f32⟩
  | 107 => ⟨S257x129, .f32⟩
  | 108 => ⟨S257x129, .bf16⟩
  | 109 => ⟨S256x256, .f32⟩
  | 110 => ⟨S256x256, .f32⟩
  | 111 => ⟨S_, .f32⟩
  | 112 => ⟨S256x1, .f32⟩
  | 113 => ⟨S256x257, .f32⟩
  | 114 => ⟨S_, .f32⟩
  | 115 => ⟨S1x257, .f32⟩
  | 116 => ⟨S257x257, .f32⟩
  | 117 => ⟨S257x129, .f32⟩
  | 118 => ⟨S257x129, .bf16⟩
  | 119 => ⟨S256x256, .f32⟩
  | 120 => ⟨S256x256, .f32⟩
  | 121 => ⟨S256x1, .f32⟩
  | 122 => ⟨S256x257, .f32⟩
  | 123 => ⟨S257x257, .f32⟩
  | 124 => ⟨S257x257, .bf16⟩
  | 125 => ⟨S128x256, .f32⟩
  | 126 => ⟨S128x1, .f32⟩
  | 127 => ⟨S128x257, .f32⟩
  | _ => ⟨S32x512x3, .f32⟩

abbrev hbmTy0_1 (i : Nat) : BufTy := match i % 128 with
  | 0 => ⟨S128x257, .bf16⟩
  | 1 => ⟨S3x1x1x128, .f32⟩
  | 2 => ⟨S1x4x1x128, .f32⟩
  | 3 => ⟨S3x4x1x128, .f32⟩
  | 4 => ⟨S3x4x1x128, .f32⟩
  | 5 => ⟨S3x4x1x128, .f32⟩
  | 6 => ⟨S1x1x2x128, .f32⟩
  | 7 => ⟨S3x4x2x128, .f32⟩
  | 8 => ⟨S3x4x2x128, .f32⟩
  | 9 => ⟨S3x4x2x128, .f32⟩
  | 10 => ⟨S24x128, .f32⟩
  | 11 => ⟨S1x128, .f32⟩
  | 12 => ⟨S1x128, .f32⟩
  | 13 => ⟨S16384x128, .f32⟩
  | _ => ⟨S32x512x3, .f32⟩

abbrev hbmTy (i : Nat) : BufTy := match i / 128 with
  | 0 => hbmTy0_0 i
  | 1 => hbmTy0_1 i
  | _ => ⟨S32x512x3, .f32⟩

abbrev bufTy : (tb : Table) → Fin (tcTables nBuf tb) → BufTy
  | .hbm, ⟨i, _⟩ => hbmTy i
  | .local _ .vmem, ⟨0, _⟩ => ⟨S1x5x10240, .bf16⟩
  | .local _ .vmem, ⟨1, _⟩ => ⟨S1x5x10240, .bf16⟩
  | .local _ .vmem, ⟨2, _⟩ => ⟨S1x1x10240, .f32⟩
  | .local _ .vmem, ⟨3, _⟩ => ⟨S1x1x10240, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S129x7, .bf16⟩
  | .local _ .vmem, ⟨11, _⟩ => ⟨S257x129, .bf16⟩
  | .local _ .vmem, ⟨12, _⟩ => ⟨S257x129, .bf16⟩
  | .local _ .vmem, ⟨13, _⟩ => ⟨S257x257, .bf16⟩
  | .local _ .vmem, ⟨14, _⟩ => ⟨S128x257, .bf16⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S24x128, .f32⟩
  | .local _ .vmem, ⟨20, _⟩ => ⟨S1x128, .f32⟩
  | .local _ .vmem, ⟨21, _⟩ => ⟨S512x128, .f32⟩
  | .local _ .vmem, ⟨22, _⟩ => ⟨S512x128, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c : Ref sig .tc := ⟨.hbm, 60, rfl⟩
abbrev main_v34 : Ref sig .tc := ⟨.hbm, 61, rfl⟩
abbrev main_v35 : Ref sig .tc := ⟨.hbm, 62, rfl⟩
abbrev main_c_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst : Ref sig .tc := ⟨.hbm, 72, rfl⟩
abbrev main_v44 : Ref sig .tc := ⟨.hbm, 73, rfl⟩
abbrev main_c_1 : Ref sig .tc := ⟨.hbm, 74, rfl⟩
abbrev main_v45 : Ref sig .tc := ⟨.hbm, 75, rfl⟩
abbrev main_c_2 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_4 : Ref sig .tc := ⟨.hbm, 86, rfl⟩
abbrev main_v54 : Ref sig .tc := ⟨.hbm, 87, rfl⟩
abbrev main_c_5 : Ref sig .tc := ⟨.hbm, 88, rfl⟩
abbrev main_v55 : Ref sig .tc := ⟨.hbm, 89, rfl⟩
abbrev main_c_6 : Ref sig .tc := ⟨.hbm, 90, rfl⟩
abbrev main_v56 : Ref sig .tc := ⟨.hbm, 91, rfl⟩
abbrev main_v57 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_8 : Ref sig .tc := ⟨.hbm, 98, rfl⟩
abbrev main_v62 : Ref sig .tc := ⟨.hbm, 99, rfl⟩
abbrev main_c_9 : Ref sig .tc := ⟨.hbm, 100, rfl⟩
abbrev main_v63 : Ref sig .tc := ⟨.hbm, 101, rfl⟩
abbrev main_c_10 : Ref sig .tc := ⟨.hbm, 102, rfl⟩
abbrev main_v64 : Ref sig .tc := ⟨.hbm, 103, rfl⟩
abbrev main_v65 : Ref sig .tc := ⟨.hbm, 104, rfl⟩
abbrev main_cst_11 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_cst_13 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x5x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S129x7 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S257x129 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S257x129 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S257x257 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x257 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S24x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S32x512x3 : Shape := ⟨3, ![32, 512, 3]⟩
abbrev S32x512 : Shape := ⟨2, ![32, 512]⟩
abbrev S32x512x3x20x2 : Shape := ⟨5, ![32, 512, 3, 20, 2]⟩
abbrev S32x512x3x20 : Shape := ⟨4, ![32, 512, 3, 20]⟩
abbrev S32x512x20 : Shape := ⟨3, ![32, 512, 20]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S1x128 : Shape := ⟨2, ![1, 128]⟩
abbrev S128x128 : Shape := ⟨2, ![128, 128]⟩
abbrev S3x128 : Shape := ⟨2, ![3, 128]⟩
abbrev S2x128 : Shape := ⟨2, ![2, 128]⟩
abbrev S4x128 : Shape := ⟨2, ![4, 128]⟩
abbrev S32x512x1x20x2 : Shape := ⟨5, ![32, 512, 1, 20, 2]⟩
abbrev S32x512x20x2 : Shape := ⟨4, ![32, 512, 20, 2]⟩
abbrev S32x512x2 : Shape := ⟨3, ![32, 512, 2]⟩
abbrev S32x512x1x2 : Shape := ⟨4, ![32, 512, 1, 2]⟩
abbrev S32x512x1x20 : Shape := ⟨4, ![32, 512, 1, 20]⟩
abbrev S32x512x20x1 : Shape := ⟨4, ![32, 512, 20, 1]⟩
abbrev S32x512x20x6 : Shape := ⟨4, ![32, 512, 20, 6]⟩
abbrev S16384x20 : Shape := ⟨2, ![16384, 20]⟩
abbrev S16384x20x6 : Shape := ⟨3, ![16384, 20, 6]⟩
abbrev S16384x20x128 : Shape := ⟨3, ![16384, 20, 128]⟩
abbrev S1x1x128 : Shape := ⟨3, ![1, 1, 128]⟩
abbrev S_ : Shape := ⟨0, ![]⟩
abbrev S16384x20x256 : Shape := ⟨3, ![16384, 20, 256]⟩
abbrev S1x1x256 : Shape := ⟨3, ![1, 1, 256]⟩
abbrev S16384x20x1 : Shape := ⟨3, ![16384, 20, 1]⟩
abbrev S16384x256 : Shape := ⟨2, ![16384, 256]⟩
abbrev S16384x1x256 : Shape := ⟨3, ![16384, 1, 256]⟩
abbrev S16384x20x512 : Shape := ⟨3, ![16384, 20, 512]⟩
abbrev S16384x128 : Shape := ⟨2, ![16384, 128]⟩
abbrev S32x512x128 : Shape := ⟨3, ![32, 512, 128]⟩
abbrev S32x512x1 : Shape := ⟨3, ![32, 512, 1]⟩
abbrev S1 : Shape := ⟨1, ![1]⟩
abbrev S1x1x1 : Shape := ⟨3, ![1, 1, 1]⟩

abbrev nBuf : Space → Nat
  | .hbm => 177
  | .vmem => 0
  | .smem => 0
  | _ => 0

abbrev hbmTy0_0 (i : Nat) : BufTy := match i % 128 with
  | 0 => ⟨S32x512x3, .f32⟩
  | 1 => ⟨S32x512, .i32⟩
  | 2 => ⟨S32x512, .i32⟩
  | 3 => ⟨S32x512, .i32⟩
  | 4 => ⟨S32x512, .i1⟩
  | 5 => ⟨S32x512, .f32⟩
  | 6 => ⟨S32x512x3x20x2, .f32⟩
  | 7 => ⟨S32x512x3x20x2, .f32⟩
  | 8 => ⟨S32x512x3x20, .f32⟩
  | 9 => ⟨S32x512x20, .i1⟩
  | 10 => ⟨S6x128, .f32⟩
  | 11 => ⟨S128, .f32⟩
  | 12 => ⟨S128x256, .f32⟩
  | 13 => ⟨S256, .f32⟩
  | 14 => ⟨S512x256, .f32⟩
  | 15 => ⟨S256, .f32⟩
  | 16 => ⟨S256x128, .f32⟩
  | 17 => ⟨S128, .f32⟩
  | 18 => ⟨S1x128, .f32⟩
  | 19 => ⟨S128, .f32⟩
  | 20 => ⟨S128x128, .f32⟩
  | 21 => ⟨S128, .f32⟩
  | 22 => ⟨S3x128, .f32⟩
  | 23 => ⟨S2x128, .f32⟩
  | 24 => ⟨S4x128, .f32⟩
  | 25 => ⟨S1x128, .f32⟩
  | 26 => ⟨S32x512x1x20x2, .f32⟩
  | 27 => ⟨S32x512x20x2, .f32⟩
  | 28 => ⟨S32x512x2, .f32⟩
  | 29 => ⟨S32x512x1x2, .f32⟩
  | 30 => ⟨S32x512x20x2, .f32⟩
  | 31 => ⟨S32x512x20x2, .f32⟩
  | 32 => ⟨S32x512x1x20, .f32⟩
  | 33 => ⟨S32x512x20, .f32⟩
  | 34 => ⟨S32x512x1x20x2, .f32⟩
  | 35 => ⟨S32x512x20x2, .f32⟩
  | 36 => ⟨S32x512x20, .f32⟩
  | 37 => ⟨S32x512x20, .f32⟩
  | 38 => ⟨S32x512x20x1, .f32⟩
  | 39 => ⟨S32x512x20x1, .f32⟩
  | 40 => ⟨S32x512x20x2, .f32⟩
  | 41 => ⟨S32x512x20x6, .f32⟩
  | 42 => ⟨S16384x20, .i1⟩
  | 43 => ⟨S16384x20x6, .f32⟩
  | 44 => ⟨S16384x20x128, .f32⟩
  | 45 => ⟨S1x1x128, .f32⟩
  | 46 => ⟨S16384x20x128, .f32⟩
  | 47 => ⟨S16384x20x128, .f32⟩
  | 48 => ⟨S_, .f32⟩
  | 49 => ⟨S16384x20x128, .f32⟩
  | 50 => ⟨S16384x20x128, .f32⟩
  | 51 => ⟨S16384x20x256, .f32⟩
  | 52 => ⟨S1x1x256, .f32⟩
  | 53 => ⟨S16384x20x256, .f32⟩
  | 54 => ⟨S16384x20x256, .f32⟩
  | 55 => ⟨S16384x20x1, .i1⟩
  | 56 => ⟨S_, .f32⟩
  | 57 => ⟨S_, .f32⟩
  | 58 => ⟨S16384x20x256, .i1⟩
  | 59 => ⟨S16384x20x256, .f32⟩
  | 60 => ⟨S16384x20x256, .f32⟩
  | 61 => ⟨S_, .f32⟩
  | 62 => ⟨S16384x256, .f32⟩
  | 63 => ⟨S16384x1x256, .f32⟩
  | 64 => ⟨S16384x20x256, .f32⟩
  | 65 => ⟨S16384x20x512, .f32⟩
  | 66 => ⟨S16384x20x256, .f32⟩
  | 67 => ⟨S1x1x256, .f32⟩
  | 68 => ⟨S16384x20x256, .f32⟩
  | 69 => ⟨S16384x20x256, .f32⟩
  | 70 => ⟨S_, .f32⟩
  | 71 => ⟨S16384x20x256, .f32⟩
  | 72 => ⟨S16384x20x256, .f32⟩
  | 73 => ⟨S16384x20x128, .f32⟩
  | 74 => ⟨S1x1x128, .f32⟩
  | 75 => ⟨S16384x20x128, .f32⟩
  | 76 => ⟨S16384x20x128, .f32⟩
  | 77 => ⟨S16384x20x1, .i1⟩
  | 78 => ⟨S_, .f32⟩
  | 79 => ⟨S_, .f32⟩
  | 80 => ⟨S16384x20x128, .i1⟩
  | 81 => ⟨S16384x20x128, .f32⟩
  | 82 => ⟨S16384x20x128, .f32⟩
  | 83 => ⟨S_, .f32⟩
  | 84 => ⟨S16384x128, .f32⟩
  | 85 => ⟨S32x512x128, .f32⟩
  | 86 => ⟨S_, .i32⟩
  | 87 => ⟨S32x512, .i32⟩
  | 88 => ⟨S32x512, .i1⟩
  | 89 => ⟨S_, .i32⟩
  | 90 => ⟨S32x512, .i32⟩
  | 91 => ⟨S32x512, .i32⟩
  | 92 => ⟨S32x512, .i32⟩
  | 93 => ⟨S32x512x1, .i32⟩
  | 94 => ⟨S1, .i32⟩
  | 95 => ⟨S_, .i32⟩
  | 96 => ⟨S32x512x1, .i32⟩
  | 97 => ⟨S32x512x1, .i1⟩
  | 98 => ⟨S1x1x1, .i32⟩
  | 99 => ⟨S32x512x1, .i32⟩
  | 100 => ⟨S32x512x1, .i1⟩
  | 101 => ⟨S32x512x1, .i1⟩
  | 102 => ⟨S_, .i1⟩
  | 103 => ⟨S32x512, .i1⟩
  | 104 => ⟨S32x512x128, .f32⟩
  | 105 => ⟨S32x512x128, .i1⟩
  | 106 => ⟨S_, .f32⟩
  | 107 => ⟨S32x512x128, .f32⟩
  | 108 => ⟨S32x512x128, .f32⟩
  | 109 => ⟨S_, .i32⟩
  | 110 => ⟨S32x512, .i32⟩
  | 111 => ⟨S32x512, .i1⟩
  | 112 => ⟨S_, .i32⟩
  | 113 => ⟨S32x512, .i32⟩
  | 114 => ⟨S32x512, .i32⟩
  | 115 => ⟨S32x512, .i32⟩
  | 116 => ⟨S32x512x1, .i32⟩
  | 117 => ⟨S1, .i32⟩
  | 118 => ⟨S_, .i32⟩
  | 119 => ⟨S32x512x1, .i32⟩
  | 120 => ⟨S32x512x1, .i1⟩
  | 121 => ⟨S1x1x1, .i32⟩
  | 122 => ⟨S32x512x1, .i32⟩
  | 123 => ⟨S32x512x1, .i1⟩
  | 124 => ⟨S32x512x1, .i1⟩
  | 125 => ⟨S_, .i1⟩
  | 126 => ⟨S32x512, .i1⟩
  | 127 => ⟨S32x512x128, .f32⟩
  | _ => ⟨S32x512x3, .f32⟩

abbrev hbmTy0_1 (i : Nat) : BufTy := match i % 128 with
  | 0 => ⟨S32x512x128, .i1⟩
  | 1 => ⟨S_, .f32⟩
  | 2 => ⟨S32x512x128, .f32⟩
  | 3 => ⟨S32x512x128, .f32⟩
  | 4 => ⟨S_, .i32⟩
  | 5 => ⟨S32x512, .i32⟩
  | 6 => ⟨S32x512, .i1⟩
  | 7 => ⟨S_, .i32⟩
  | 8 => ⟨S32x512, .i32⟩
  | 9 => ⟨S32x512, .i32⟩
  | 10 => ⟨S32x512, .i32⟩
  | 11 => ⟨S32x512x1, .i32⟩
  | 12 => ⟨S1, .i32⟩
  | 13 => ⟨S_, .i32⟩
  | 14 => ⟨S32x512x1, .i32⟩
  | 15 => ⟨S32x512x1, .i1⟩
  | 16 => ⟨S1x1x1, .i32⟩
  | 17 => ⟨S32x512x1, .i32⟩
  | 18 => ⟨S32x512x1, .i1⟩
  | 19 => ⟨S32x512x1, .i1⟩
  | 20 => ⟨S_, .i1⟩
  | 21 => ⟨S32x512, .i1⟩
  | 22 => ⟨S32x512x128, .f32⟩
  | 23 => ⟨S32x512x128, .i1⟩
  | 24 => ⟨S_, .f32⟩
  | 25 => ⟨S32x512x128, .f32⟩
  | 26 => ⟨S32x512x128, .f32⟩
  | 27 => ⟨S32x512x1, .f32⟩
  | 28 => ⟨S32x512x128, .f32⟩
  | 29 => ⟨S1x1x128, .f32⟩
  | 30 => ⟨S32x512x128, .f32⟩
  | 31 => ⟨S32x512x128, .f32⟩
  | 32 => ⟨S_, .f32⟩
  | 33 => ⟨S32x512x128, .f32⟩
  | 34 => ⟨S32x512x128, .f32⟩
  | 35 => ⟨S32x512x128, .f32⟩
  | 36 => ⟨S1x1x128, .f32⟩
  | 37 => ⟨S32x512x128, .f32⟩
  | 38 => ⟨S32x512x128, .f32⟩
  | 39 => ⟨S32x512x1, .i1⟩
  | 40 => ⟨S128, .f32⟩
  | 41 => ⟨S32x512x128, .i1⟩
  | 42 => ⟨S32x512x128, .f32⟩
  | 43 => ⟨S32x512x128, .f32⟩
  | 44 => ⟨S32x512x128, .f32⟩
  | 45 => ⟨S32x512x128, .f32⟩
  | 46 => ⟨S32x512x128, .f32⟩
  | 47 => ⟨S32x512x128, .f32⟩
  | 48 => ⟨S16384x128, .f32⟩
  | _ => ⟨S32x512x3, .f32⟩

abbrev hbmTy (i : Nat) : BufTy := match i / 128 with
  | 0 => hbmTy0_0 i
  | 1 => hbmTy0_1 i
  | _ => ⟨S32x512x3, .f32⟩

abbrev bufTy : (tb : Table) → Fin (tcTables nBuf tb) → BufTy
  | .hbm, ⟨i, _⟩ => hbmTy i
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_0 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_3 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v45 : Ref sig .tc := ⟨.hbm, 82, rfl⟩
abbrev main_cst_4 : Ref sig .tc := ⟨.hbm, 83, rfl⟩
abbrev main_v46 : Ref sig .tc := ⟨.hbm, 84, rfl⟩
abbrev main_v47 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v48 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v49 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_cst : Ref sig .tc := ⟨.hbm, 152, rfl⟩
abbrev main_call4_v15 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_cst_5 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_call5_v0 : Ref sig .tc := ⟨.hbm, 169, rfl⟩
abbrev main_call5_v1 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩

abbrev nD : Nat := 1
abbrev τ : Topo := Topo.v7x

variable {F : FTy → Type} [FloatOps F]
-- ==== Proof.Encoder.lean ====
/- The polygon encoder over the extended reals, for one polygon of twenty points: the plain form (two layers, a greatest
   value over the points, two more layers, a second greatest value) and the folded form (every bias a last column of its
   matrix, the mask multiplied in, the second layer and the upper half of the third joined into one matrix). They agree
   where the data that the joined matrix multiplies are real numbers. -/
module

public import Mathlib.Data.EReal.Operations
public import Mathlib.Algebra.BigOperators.Fin

@[expose] public section

noncomputable section

namespace PolygonEncoder

open scoped BigOperators

/-! ## Families with a last member, greatest values, real numbers -/

/-- The family `f` with one more member `x` at the end. -/
def ext {α : Type} {n : ℕ} (f : Fin n → α) (x : α) : Fin (n + 1) → α :=
  fun i => if h : i.val < n then f ⟨i.val, h⟩ else x

theorem ext_castSucc {α : Type} {n : ℕ} (f : Fin n → α) (x : α) (i : Fin n) : ext f x i.castSucc = f i := by
  simp [ext]

theorem ext_last {α : Type} {n : ℕ} (f : Fin n → α) (x : α) : ext f x (Fin.last n) = x := by
  simp [ext]

/-- The greatest member of a family over the twenty points. -/
def top (f : Fin 20 → EReal) : EReal := Finset.univ.sup f

/-- An extended real that is a real number. -/
def IsReal (x : EReal) : Prop := ∃ r : ℝ, x = (r : EReal)

theorem IsReal.zero : IsReal 0 := ⟨0, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- A real number times the sum of a real number and any extended real. -/
theorem real_mul_add (r x : ℝ) (z : EReal) : (r : EReal) * ((x : EReal) + z) = r * x + r * z := by
  induction z with
  | coe z => rw [← EReal.coe_add, ← EReal.coe_mul, mul_add, EReal.coe_add, EReal.coe_mul, EReal.coe_mul]
  | top =>
    rw [EReal.coe_add_top, ← EReal.coe_mul]
    rcases lt_trichotomy r 0 with h | h | h
    · rw [EReal.coe_mul_top_of_neg h, EReal.add_bot]
    · subst h; simp
    · rw [EReal.coe_mul_top_of_pos h, EReal.coe_add_top]
  | bot =>
    rw [EReal.add_bot, ← EReal.coe_mul]
    rcases lt_trichotomy r 0 with h | h | h
    · rw [EReal.coe_mul_bot_of_neg h, EReal.coe_add_top]
    · subst h; simp
    · rw [EReal.coe_mul_bot_of_pos h, EReal.add_bot]

/-- Sums of real products, taken in either order: `∑ i, (∑ j, a j * b i j) * x i` is `∑ j, a j * ∑ i, x i * b i j`. -/
theorem sum_joined {n k : ℕ} (a : Fin n → EReal) (b : Fin k → Fin n → EReal) (x : Fin k → EReal)
    (ha : ∀ j, IsReal (a j)) (hb : ∀ i j, IsReal (b i j)) (hx : ∀ i, IsReal (x i)) :
    ∑ i, (∑ j, a j * b i j) * x i = ∑ j, a j * ∑ i, x i * b i j := by
  choose a' ha using ha
  choose b' hb using hb
  choose x' hx using hx
  obtain rfl : a = fun j => (a' j : EReal) := funext ha
  obtain rfl : x = fun i => (x' i : EReal) := funext hx
  obtain rfl : b = fun i j => (b' i j : EReal) := funext fun i => funext fun j => hb i j
  have coe : ∀ {N : ℕ} (f : Fin N → ℝ), ∑ i, (f i : EReal) = ((∑ i, f i : ℝ) : EReal) := by
    intro N f
    induction N with
    | zero => simp
    | succ N ih => rw [Fin.sum_univ_castSucc, Fin.sum_univ_castSucc, ih, EReal.coe_add]
  simp only [← EReal.coe_mul, coe]
  congr 1
  simp only [Finset.sum_mul, Finset.mul_sum]
  rw [Finset.sum_comm]
  exact Finset.sum_congr rfl fun j _ => Finset.sum_congr rfl fun i _ => by ring

/-! ## The weights and the two forms -/

/-- The weights of the four layers; the third is in two halves, for a point's own values and for the greatest values. -/
structure Weights where
  W1 : Fin 6 → Fin 128 → EReal
  b1 : Fin 128 → EReal
  W2 : Fin 128 → Fin 256 → EReal
  b2 : Fin 256 → EReal
  W3 : Fin 256 → Fin 256 → EReal
  W3' : Fin 256 → Fin 256 → EReal
  b3 : Fin 256 → EReal
  W4 : Fin 256 → Fin 128 → EReal
  b4 : Fin 128 → EReal

variable (w : Weights) (f : Fin 20 → Fin 6 → EReal) (on : Fin 20 → Prop) [DecidablePred on]

/-- The first layer at point `p`. -/
def layer1 (p : Fin 20) (k : Fin 128) : EReal := max (∑ c, f p c * w.W1 c k + w.b1 k) 0
/-- The second layer at point `p`, zero where the point is masked. -/
def layer2 (p : Fin 20) (j : Fin 256) : EReal := if on p then ∑ k, layer1 w f p k * w.W2 k j + w.b2 j else 0
/-- The greatest second-layer value over the points. -/
def pooled (j : Fin 256) : EReal := top fun p => layer2 w f on p j
/-- The third layer at point `p`, over its own values and the greatest ones. -/
def layer3 (p : Fin 20) (k : Fin 256) : EReal :=
  max ((∑ j, layer2 w f on p j * w.W3 j k + ∑ j, pooled w f on j * w.W3' j k) + w.b3 k) 0
/-- The fourth layer at point `p`, zero where the point is masked. -/
def layer4 (p : Fin 20) (d : Fin 128) : EReal := if on p then ∑ k, layer3 w f on p k * w.W4 k d + w.b4 d else 0
/-- The encoder: the greatest fourth-layer value over the points. -/
def encoder (d : Fin 128) : EReal := top fun p => layer4 w f on p d

/-- The first matrix with its bias column and the row that keeps the one. -/
def M1 : Fin 129 → Fin 7 → EReal := ext (fun k => ext (fun c => w.W1 c k) (w.b1 k)) (ext (fun _ => 0) 1)
/-- The second matrix with its bias column and the row that keeps the mask. -/
def M2 : Fin 257 → Fin 129 → EReal := ext (fun j => ext (fun k => w.W2 k j) (w.b2 j)) (ext (fun _ => 0) 1)
/-- The third layer's first half with a zero column and a zero row. -/
def M3 : Fin 257 → Fin 257 → EReal := ext (fun k => ext (fun j => w.W3 j k) 0) (fun _ => 0)
/-- The second matrix and the third layer's first half, joined. -/
def M32 (k : Fin 257) (i : Fin 129) : EReal := ∑ j, M3 w k j * M2 w j i
/-- The third layer's second half with its bias column and the row that keeps the mask's greatest value. -/
def M3' : Fin 257 → Fin 257 → EReal := ext (fun k => ext (fun j => w.W3' j k) (w.b3 k)) (ext (fun _ => 0) 1)
/-- The fourth matrix with its bias column. -/
def M4 (d : Fin 128) : Fin 257 → EReal := ext (fun k => w.W4 k d) (w.b4 d)

/-- The mask as a number. -/
def bit (p : Fin 20) : EReal := if on p then 1 else 0

theorem bit_on {on : Fin 20 → Prop} [DecidablePred on] {p : Fin 20} (h : on p) : bit on p = 1 := if_pos h

theorem bit_off {on : Fin 20 → Prop} [DecidablePred on] {p : Fin 20} (h : ¬on p) : bit on p = 0 := if_neg h

/-- The folded first layer, times the mask. -/
def fold1 (A1 : Fin 129 → Fin 7 → EReal) (x : Fin 7 → EReal) (b : EReal) (k : Fin 129) : EReal :=
  max (∑ c, A1 k c * x c) 0 * b
/-- The folded second layer. -/
def fold2 (A2 : Fin 257 → Fin 129 → EReal) (h : Fin 129 → EReal) (j : Fin 257) : EReal := ∑ k, A2 j k * h k
/-- The folded third layer, from a point's first layer and the greatest values. -/
def fold3 (A32 : Fin 257 → Fin 129 → EReal) (A3' : Fin 257 → Fin 257 → EReal) (h : Fin 129 → EReal)
    (g : Fin 257 → EReal) (k : Fin 257) : EReal :=
  max (∑ i, A32 k i * h i + ∑ j, A3' k j * g j) 0
/-- The folded fourth layer, times the mask. -/
def fold4 (a4 : Fin 257 → EReal) (u : Fin 257 → EReal) (b : EReal) : EReal := (∑ j, a4 j * u j) * b

/-- The folded encoder, from its matrices, the points' features (each with a last member) and the mask's numbers. -/
def folded (A1 : Fin 129 → Fin 7 → EReal) (A2 A32 : Fin 257 → Fin 129 → EReal) (A3' : Fin 257 → Fin 257 → EReal)
    (A4 : Fin 128 → Fin 257 → EReal) (x : Fin 20 → Fin 7 → EReal) (b : Fin 20 → EReal) (d : Fin 128) : EReal :=
  top fun p => fold4 (A4 d)
    (fold3 A32 A3' (fold1 A1 (x p) (b p)) fun j => top fun q => fold2 A2 (fold1 A1 (x q) (b q)) j) (b p)

/-! ## They agree -/

variable {w f on}

theorem fold1_castSucc (p : Fin 20) (k : Fin 128) :
    fold1 (M1 w) (ext (f p) 1) (bit on p) k.castSucc = if on p then layer1 w f p k else 0 := by
  unfold fold1 M1 bit layer1
  rw [Fin.sum_univ_castSucc]
  simp only [ext_castSucc, ext_last, mul_one]
  split
  · rw [mul_one]
    simp only [EReal.mul_comm]
  · rw [mul_zero]

theorem fold1_last (p : Fin 20) : fold1 (M1 w) (ext (f p) 1) (bit on p) (Fin.last 128) = bit on p := by
  unfold fold1 M1
  rw [Fin.sum_univ_castSucc]
  simp only [ext_castSucc, ext_last, mul_one, zero_mul, Finset.sum_const_zero, zero_add]
  rw [max_eq_left zero_le_one, one_mul]

theorem fold2_castSucc (p : Fin 20) (j : Fin 256) :
    fold2 (M2 w) (fold1 (M1 w) (ext (f p) 1) (bit on p)) j.castSucc = layer2 w f on p j := by
  unfold fold2 M2 layer2
  rw [Fin.sum_univ_castSucc]
  simp only [ext_castSucc, ext_last, fold1_castSucc, fold1_last]
  by_cases h : on p
  · simp only [bit_on h, if_pos h, mul_one, EReal.mul_comm]
  · simp only [bit_off h, if_neg h, mul_zero, Finset.sum_const_zero, add_zero]

theorem fold2_last (p : Fin 20) :
    fold2 (M2 w) (fold1 (M1 w) (ext (f p) 1) (bit on p)) (Fin.last 256) = bit on p := by
  unfold fold2 M2
  rw [Fin.sum_univ_castSucc]
  simp only [ext_castSucc, ext_last, fold1_last, zero_mul, Finset.sum_const_zero, zero_add, one_mul]

/-- The mask's greatest number is one as soon as one point is not masked. -/
theorem top_bit {p : Fin 20} (h : on p) : top (bit on) = 1 := by
  refine le_antisymm (Finset.sup_le fun q _ => ?_) ?_
  · unfold bit; split
    · exact le_rfl
    · exact zero_le_one
  · refine le_trans ?_ (Finset.le_sup (f := bit on) (Finset.mem_univ p))
    rw [bit_on h]

theorem M32_castSucc_castSucc (k : Fin 256) (i : Fin 128) :
    M32 w k.castSucc i.castSucc = ∑ j, w.W3 j k * w.W2 i j := by
  unfold M32 M3 M2
  rw [Fin.sum_univ_castSucc]
  simp only [ext_castSucc, ext_last, zero_mul, add_zero]

theorem M32_castSucc_last (k : Fin 256) : M32 w k.castSucc (Fin.last 128) = ∑ j, w.W3 j k * w.b2 j := by
  unfold M32 M3 M2
  rw [Fin.sum_univ_castSucc]
  simp only [ext_castSucc, ext_last, zero_mul, add_zero]

theorem M32_last (i : Fin 129) : M32 w (Fin.last 256) i = 0 := by
  unfold M32 M3
  simp only [ext_last, zero_mul, Finset.sum_const_zero]

/-- The data that the joined matrix multiplies are real numbers; of the points, those that are shown. -/
structure Finite (w : Weights) (f : Fin 20 → Fin 6 → EReal) (on : Fin 20 → Prop) : Prop where
  W1 : ∀ c k, IsReal (w.W1 c k)
  b1 : ∀ k, IsReal (w.b1 k)
  W2 : ∀ k j, IsReal (w.W2 k j)
  W3 : ∀ j k, IsReal (w.W3 j k)
  f : ∀ p, on p → ∀ c, IsReal (f p c)

theorem layer1_real (hw : Finite w f on) {p : Fin 20} (hp : on p) (k : Fin 128) : IsReal (layer1 w f p k) :=
  ((IsReal.sum _ _ fun c => (hw.f p hp c).mul (hw.W1 c k)).add (hw.b1 k)).max IsReal.zero

/-- The joined matrix applied to the first layer is the third layer's first half applied to the second. -/
theorem joined_eq (hw : Finite w f on) {p : Fin 20} (hp : on p) (k : Fin 256) :
    ∑ i, M32 w k.castSucc i * fold1 (M1 w) (ext (f p) 1) (bit on p) i = ∑ j, layer2 w f on p j * w.W3 j k := by
  rw [Fin.sum_univ_castSucc]
  simp only [M32_castSucc_castSucc, M32_castSucc_last, fold1_castSucc, fold1_last]
  simp only [bit_on hp, if_pos hp, mul_one]
  rw [sum_joined _ (fun i j => w.W2 i j) _ (fun j => hw.W3 j k) hw.W2 (layer1_real hw hp), ← Finset.sum_add_distrib]
  refine Finset.sum_congr rfl fun j _ => ?_
  obtain ⟨r, hr⟩ := hw.W3 j k
  obtain ⟨x, hx⟩ := IsReal.sum Finset.univ _ fun i => (layer1_real hw hp i).mul (hw.W2 i j)
  rw [layer2, if_pos hp, hr, hx, ← real_mul_add, EReal.mul_comm]

/-- THE EQUATION: the folded encoder at the folded matrices is the encoder. -/
theorem folded_eq_encoder (hw : Finite w f on) (d : Fin 128) :
    folded (M1 w) (M2 w) (M32 w) (M3' w) (M4 w) (fun p => ext (f p) 1) (bit on) d = encoder w f on d := by
  unfold folded encoder
  congr 1
  funext p
  by_cases hp : on p
  swap
  · unfold fold4 layer4
    rw [bit_off hp, if_neg hp, mul_zero]
  have hpool : ∀ j : Fin 256, (top fun q => fold2 (M2 w) (fold1 (M1 w) (ext (f q) 1) (bit on q)) j.castSucc)
      = pooled w f on j := fun j => by simp only [fold2_castSucc]; rfl
  have hone : (top fun q => fold2 (M2 w) (fold1 (M1 w) (ext (f q) 1) (bit on q)) (Fin.last 256)) = 1 := by
    simp only [fold2_last]; exact top_bit hp
  have h3 : ∀ k : Fin 256, fold3 (M32 w) (M3' w) (fold1 (M1 w) (ext (f p) 1) (bit on p))
      (fun j => top fun q => fold2 (M2 w) (fold1 (M1 w) (ext (f q) 1) (bit on q)) j) k.castSucc
      = layer3 w f on p k := by
    intro k
    unfold fold3 layer3
    rw [joined_eq hw hp, Fin.sum_univ_castSucc (n := 256)]
    beta_reduce
    rw [hone]
    simp only [hpool]
    unfold M3'
    simp only [ext_castSucc, ext_last, mul_one, add_assoc]
    simp only [EReal.mul_comm]
  have h3' : fold3 (M32 w) (M3' w) (fold1 (M1 w) (ext (f p) 1) (bit on p))
      (fun j => top fun q => fold2 (M2 w) (fold1 (M1 w) (ext (f q) 1) (bit on q)) j) (Fin.last 256) = 1 := by
    unfold fold3
    rw [Fin.sum_univ_castSucc (n := 256)]
    beta_reduce
    rw [hone]
    unfold M3'
    simp only [M32_last, ext_castSucc, ext_last, zero_mul, Finset.sum_const_zero, zero_add, mul_one]
    exact max_eq_left zero_le_one
  unfold fold4 layer4
  rw [Fin.sum_univ_castSucc, h3', if_pos hp]
  simp only [h3]
  unfold M4
  simp only [ext_castSucc, ext_last, mul_one, bit_on hp, EReal.mul_comm]

end PolygonEncoder
-- ==== Proof.Block.lean ====
/- What one grid point's body computes, read at one element of its output block: the folded encoder of that polygon's
   points, the row of the embedding table that the polygon's index selects, and the speed-limit term. -/
module

public import proofs.«01_k».proof.Proof.Gen.KernelIdeal.Value
public import proofs.«01_k».proof.Proof.Encoder
public import Idealize.ShloMosaic.Lib.Pointwise

@[expose] public section

set_option maxRecDepth 16384

noncomputable section

namespace Cert.KernelIdeal.Block

open Cert.KernelIdeal Cert.KernelIdeal.Gen Idealize.ShloMosaic PolygonEncoder
open scoped BigOperators

/-! ## The point's data in a block -/

/-- The lane that holds point `p` of the polygon of row `r`. -/
def lane (p : Fin 20) (r : Fin 512) : Fin 10240 := ⟨512 * p.val + r.val, by omega⟩

/-- The six features on lane `l`: the two offsets, the two directions, and the orientation's cosine and sine. -/
def features (x0 : FVec Ideal S1x5x10240 .bf16) (x1 : FVec Ideal S1x1x10240 .f32) (l : Fin 10240) : Fin 6 → EReal :=
  ![x0 (ix3 0 0 l), x0 (ix3 0 1 l), x0 (ix3 0 2 l), x0 (ix3 0 3 l), Ideal.cos (x1 (ix3 0 0 l)), Ideal.sin (x1 (ix3 0 0 l))]

/-- The greatest of twenty values, taken one after the other. -/
theorem top_chain (f : Fin 20 → EReal) :
    max (max (max (max (max (max (max (max (max (max (max (max (max (max (max (max (max (max (max (f 0) (f 1)) (f 2))
      (f 3)) (f 4)) (f 5)) (f 6)) (f 7)) (f 8)) (f 9)) (f 10)) (f 11)) (f 12)) (f 13)) (f 14)) (f 15)) (f 16)) (f 17))
      (f 18)) (f 19) = top f := by
  refine le_antisymm ?_ (Finset.sup_le fun p _ => ?_)
  · simp only [max_le_iff]
    refine ⟨⟨⟨⟨⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩
      <;> exact Finset.le_sup (f := f) (Finset.mem_univ _)
  · fin_cases p <;> simp only [le_max_iff] <;> simp only [Fin.reduceFinMk, Fin.zero_eta, Fin.mk_one, le_refl, true_or, or_true]

theorem lane_zero (r : Fin 512) : lane 0 r = ⟨r.val, by omega⟩ := by simp [lane]

/-! ## The layers -/

section Layers
variable (x0 : FVec Ideal S1x5x10240 .bf16) (x1 : FVec Ideal S1x1x10240 .f32) (A1 : FVec Ideal S129x7 .bf16)
  (A2 A32 : FVec Ideal S257x129 .bf16) (A3' : FVec Ideal S257x257 .bf16) (A4 : FVec Ideal S128x257 .bf16)

/-- The folded first layer on lane `l`. -/
def first (l : Fin 10240) : Fin 129 → EReal :=
  fold1 (fun k c => A1 (ix2 k c)) (ext (features x0 x1 l) 1) (x0 (ix3 0 4 l))

theorem first_apply (k : Fin 129) (l : Fin 10240) :
    k0_pay4 (F := Ideal) x0 x1 x1 A1 (ix2 k l) = first x0 x1 A1 l k := by
  pointwise [k0_pay4, k0_pay3, k0_pay2]
  unfold first fold1
  refine congrArg (fun s => max s 0 * _) (Finset.sum_congr rfl fun c _ => congrArg _ ?_)
  fin_cases c <;> rfl

/-- The folded second layer on lane `l`. -/
theorem second_apply (j : Fin 257) (l : Fin 10240) :
    k0_pay5 (F := Ideal) x0 x1 x1 A1 A2 (ix2 j l) = fold2 (fun j k => A2 (ix2 j k)) (first x0 x1 A1 l) j := by
  pointwise [k0_pay5]
  simp only [first_apply]
  rfl

/-- The greatest second-layer values of row `r`, through the third layer's second half. -/
theorem pooled_apply (k : Fin 257) (r : Fin 512) :
    k0_pay7 (F := Ideal) (k0_pay5 x0 x1 x1 A1 A2) (k0_pay6 x0 x1 x1 A1 A2) A3' (ix2 k r)
      = ∑ j, A3' (ix2 k j) * top fun p => fold2 (fun j k => A2 (ix2 j k)) (first x0 x1 A1 (lane p r)) j := by
  pointwise [k0_pay7, k0_pay6]
  refine Finset.sum_congr rfl fun j _ => congrArg _ ?_
  simp only [← second_apply]
  rw [← top_chain, lane_zero]
  rfl

/-- The third layer's joined first half on lane `l`. -/
theorem joined_apply (k : Fin 257) (l : Fin 10240) :
    k0_pay8 (F := Ideal) (k0_pay4 x0 x1 x1 A1) A32 (ix2 k l) = ∑ i, A32 (ix2 k i) * first x0 x1 A1 l i := by
  pointwise [k0_pay8]
  simp only [first_apply]

/-- The third layer from its two halves `v74` and `v71`: lane `l` belongs to row `l % 512`. -/
def third (v71 : FVec Ideal S257x512 .f32) (v74 : FVec Ideal S257x10240 .f32) (l : Fin 10240) (k : Fin 257) : EReal :=
  max (v74 (ix2 k l) + v71 (ix2 k ⟨l.val % 512, Nat.mod_lt _ (by decide)⟩)) 0

end Layers

section Fourth
variable (v16 : FVec Ideal S1x10240 .bf16) (v25 : FVec Ideal S129x10240 .bf16) (v28 : FVec Ideal S257x10240 .f32)
  (v41 : FVec Ideal S257x512 .f32) (v68 : FVec Ideal S257x257 .bf16) (v72 : FVec Ideal S257x129 .bf16)
  (A4 : FVec Ideal S128x257 .bf16)

/-- The fourth layer as the body forms it: the twenty third-layer pieces side by side, its matrix, the mask. -/
def fourth : FVec Ideal S128x10240 .f32 :=
  let v71 := k0_pay7 v28 v41 v68
  let v74 := k0_pay8 v25 v72
  k0_pay24 v16 v71 v74 (k0_pay9 v25 v28 v41 v68 v72) (k0_pay10 v25 v28 v41 v68 v72) (k0_pay11 v25 v28 v41 v68 v72)
    (k0_pay13 (k0_pay12 v25 v28 v41 v68 v72) (Scalar.ofBits .f32 0x00000000#32)) (k0_pay14 v71 v74) (k0_pay15 v71 v74)
    (k0_pay16 v71 v74) (k0_pay17 v71 v74) (k0_pay18 v71 v74) (k0_pay19 v71 v74) (k0_pay20 v71 v74) (k0_pay21 v71 v74)
    (k0_pay22 v71 v74) (k0_pay23 v71 v74) (Scalar.ofBits .f32 0x00000000#32) A4

/-- The window of 512 lanes from lane `512 * p` on lies in the block. -/
theorem piece_slices (p : Fin 20) : S257x10240.Slices ![0, 512 * p.val] S257x512 := by
  fin_cases p <;> decide

/-- The third layer at point `p` of every row, the sides not yet brought to one array. -/
def piece (v71 : FVec Ideal S257x512 .f32) (v74 : FVec Ideal S257x10240 .f32) (p : Fin 20) : FVec Ideal S257x512 .bf16 :=
  truncf .bf16 (maximumf (addf (extractStridedSlice S257x512 ![0, 512 * p.val] v74 (piece_slices p)) v71)
    (broadcast S257x512 (Scalar.ofBits .f32 0x00000000#32))) bitsLt_bf16_f32

theorem pieces_concatenate (v71 : FVec Ideal S257x512 .f32) (v74 : FVec Ideal S257x10240 .f32) :
    Shape.Concatenates ((List.ofFn fun p : Fin 20 =>
      (⟨S257x512, piece v71 v74 p⟩ : (s : Shape) × (s.Idx → Ideal .bf16))).map (·.1)) S257x10240 1 :=
  concatenates_S257x512_S257x512_S257x512_S257x512_S257x512_S257x512_S257x512_S257x512_S257x512_S257x512_S257x512_S257x512_S257x512_S257x512_S257x512_S257x512_S257x512_S257x512_S257x512_S257x512_S257x10240_d1

/-- The pieces side by side. -/
def pieces (v71 : FVec Ideal S257x512 .f32) (v74 : FVec Ideal S257x10240 .f32) : FVec Ideal S257x10240 .bf16 :=
  concatenate S257x10240 1 (List.ofFn fun p : Fin 20 => ⟨S257x512, piece v71 v74 p⟩) (pieces_concatenate v71 v74)

theorem pieces_apply (v71 : FVec Ideal S257x512 .f32) (v74 : FVec Ideal S257x10240 .f32) (j : Fin 257) (l : Fin 10240) :
    pieces v71 v74 (ix2 j l) = third v71 v74 l j := by
  unfold pieces
  rw [Idealize.ShloMosaic.concatenate_ofFn_apply (t := S257x10240) (s₁ := S257x512) 1 (piece v71 v74) _ rfl 512 rfl
    (ix2 j l) ⟨l.val / 512, by omega⟩ rfl (ix2 j ⟨l.val % 512, Nat.mod_lt _ (by decide)⟩) rfl
    (fun b hb => match b, hb with | ⟨0, _⟩, _ => rfl | ⟨1, _⟩, hb => absurd rfl hb)]
  unfold piece third
  pointwise []
  congr 4
  apply Fin.ext
  show 512 * (l.val / 512) + l.val % 512 = l.val
  omega

theorem fourth_eq : fourth v16 v25 v28 v41 v68 v72 A4
    = mulf (matmul dot_S128x257_S257x10240_S128x10240_1_0_0_1_n_n none (shapeCast S128x257 A4 shapeCasts_S128x257_S128x257)
        (pieces (k0_pay7 v28 v41 v68) (k0_pay8 v25 v72)) (constant S128x10240 .f32 0x00000000#32))
      (broadcastTo S128x10240 (extf .f32 v16 bitsLt_bf16_f32) broadcasts_S1x10240_S128x10240) := rfl

theorem fourth_apply (d : Fin 128) (l : Fin 10240) :
    fourth v16 v25 v28 v41 v68 v72 A4 (ix2 d l)
      = fold4 (fun j => A4 (ix2 d j)) (third (k0_pay7 v28 v41 v68) (k0_pay8 v25 v72) l) (v16 (ix2 0 l)) := by
  rw [fourth_eq]
  generalize h : pieces (k0_pay7 v28 v41 v68) (k0_pay8 v25 v72) = C
  pointwise []
  subst h
  simp only [pieces_apply]
  rfl

end Fourth

/-! ## The greatest values, the embeddings, the output block -/

/-- The greatest fourth-layer value over the first six points of every row. -/
def firstSix (g : FVec Ideal S128x10240 .f32) : FVec Ideal S128x512 .f32 :=
  maximumf (maximumf (maximumf (maximumf (maximumf
    (extractStridedSlice S128x512 ![0, 0] g slices_S128x10240_o0_0_S128x512)
    (extractStridedSlice S128x512 ![0, 512] g slices_S128x10240_o0_512_S128x512))
    (extractStridedSlice S128x512 ![0, 1024] g slices_S128x10240_o0_1024_S128x512))
    (extractStridedSlice S128x512 ![0, 1536] g slices_S128x10240_o0_1536_S128x512))
    (extractStridedSlice S128x512 ![0, 2048] g slices_S128x10240_o0_2048_S128x512))
    (extractStridedSlice S128x512 ![0, 2560] g slices_S128x10240_o0_2560_S128x512)

/-- Row `r`'s selected row of the table `x14`, at `d`: the sum over the table's rows of those that the index names. -/
def selected (x2 : IVec S512x1 32) (x14 : FVec Ideal S24x128 .f32) (r : Fin 512) (d : Fin 128) : EReal :=
  ∑ q : Fin 24, Scalar.select (IntOp.cmpi .eq (BitVec.ofNat 32 q.val) (x2 (ix2 r 0))) (x14 (ix2 q d)) 0

theorem greatest_apply (g : FVec Ideal S128x10240 .f32) (x2 : IVec S512x1 32) (x14 : FVec Ideal S24x128 .f32)
    (r : Fin 512) (d : Fin 128) :
    k0_pay26 g (firstSix g) x2 x14 (ix2 r d) = (top fun p => g (ix2 d (lane p r))) + selected x2 x14 r d := by
  pointwise [k0_pay26, firstSix]
  rw [← top_chain, lane_zero]
  rfl

section Out
variable (x0 : FVec Ideal S1x5x10240 .bf16) (x1 : FVec Ideal S1x1x10240 .f32) (x2 : IVec S512x1 32)
  (x3 x4 : FVec Ideal S512x1 .f32) (x5 : FVec Ideal S129x7 .bf16) (x6 x7 : FVec Ideal S257x129 .bf16)
  (x8 : FVec Ideal S257x257 .bf16) (x9 : FVec Ideal S128x257 .bf16) (x10 x11 : FVec Ideal S1x128 .f32)
  (x12 : FVec Ideal S128x128 .f32) (x13 : FVec Ideal S1x128 .f32) (x14 : FVec Ideal S24x128 .f32)
  (x15 : FVec Ideal S1x128 .f32)

/-- The output block is the store's payload, over the blocks themselves. -/
theorem out_eq : out0_16 (F := Ideal) x0 x1 x2 x3 x4 x5 x6 x7 x8 x9 x10 x11 x12 x13 x14 x15
    = k0_pay1 (k0_pay26 (fourth (k0_pay3 x0) (k0_pay4 x0 x1 x1 x5) (k0_pay5 x0 x1 x1 x5 x6) (k0_pay6 x0 x1 x1 x5 x6) x8 x7 x9)
        (firstSix (fourth (k0_pay3 x0) (k0_pay4 x0 x1 x1 x5) (k0_pay5 x0 x1 x1 x5 x6) (k0_pay6 x0 x1 x1 x5 x6) x8 x7 x9))
        x2 x14) (k0_pay27 x4 x10) x11 x12 x13 x3 x15 := by
  have h2 : (![0, 0] : Fin 2 → Nat) = fun _ => 0 := by decide
  have h3 : (![0, 0, 0] : Fin 3 → Nat) = fun _ => 0 := by decide
  unfold_out out0_16
  rw [View.canon_unit_zero h2]
  simp only [View.ld_unit_zero (S := S1x5x10240) h3, View.ld_unit_zero (S := S1x1x10240) h3,
    View.ld_unit_zero (S := S129x7) h2, View.ld_unit_zero (S := S257x129) h2, View.ld_unit_zero (S := S257x257) h2,
    View.ld_unit_zero (S := S128x257) h2, View.ld_unit_zero (S := S512x1) h2, View.ld_unit_zero (S := S24x128) h2,
    View.ld_unit_zero (S := S1x128) h2, View.ld_unit_zero (S := S128x128) h2]
  rfl

/-- The speed-limit term of a polygon with flag `hs` and limit `sl`: two layers where the flag is set, a fixed row elsewhere. -/
def speed (hs sl : EReal) (d : Fin 128) : EReal :=
  hs * (∑ e, max (sl * x10 (ix2 0 e) + x11 (ix2 0 e)) 0 * x12 (ix2 e d) + x13 (ix2 0 d))

/-- WHAT THE BODY COMPUTES at row `r` and column `d` of its output block. -/
theorem out_apply (r : Fin 512) (d : Fin 128) :
    out0_16 (F := Ideal) x0 x1 x2 x3 x4 x5 x6 x7 x8 x9 x10 x11 x12 x13 x14 x15 (ix2 r d)
      = folded (fun k c => x5 (ix2 k c)) (fun j k => x6 (ix2 j k)) (fun k i => x7 (ix2 k i)) (fun k j => x8 (ix2 k j))
          (fun d j => x9 (ix2 d j)) (fun p => ext (features x0 x1 (lane p r)) 1) (fun p => x0 (ix3 0 4 (lane p r))) d
        + selected x2 x14 r d + speed x10 x11 x12 x13 (x3 (ix2 r 0)) (x4 (ix2 r 0)) d
        + (1 - x3 (ix2 r 0)) * x15 (ix2 0 d) := by
  rw [out_eq]
  generalize hg : fourth (k0_pay3 x0) (k0_pay4 x0 x1 x1 x5) (k0_pay5 x0 x1 x1 x5 x6) (k0_pay6 x0 x1 x1 x5 x6) x8 x7 x9 = g
  have hfour : (top fun p => g (ix2 d (lane p r))) = folded (fun k c => x5 (ix2 k c)) (fun j k => x6 (ix2 j k))
      (fun k i => x7 (ix2 k i)) (fun k j => x8 (ix2 k j)) (fun d j => x9 (ix2 d j))
      (fun p => ext (features x0 x1 (lane p r)) 1) (fun p => x0 (ix3 0 4 (lane p r))) d := by
    subst hg
    unfold folded
    congr 1
    funext p
    rw [fourth_apply]
    have hm : k0_pay3 x0 (ix2 0 (lane p r)) = x0 (ix3 0 4 (lane p r)) := by pointwise [k0_pay3, k0_pay2]
    rw [hm]
    congr 1
    funext k
    have hr : (⟨(lane p r).val % 512, Nat.mod_lt _ (by decide)⟩ : Fin 512) = r := by
      apply Fin.ext
      show (512 * p.val + r.val) % 512 = r.val
      omega
    unfold third fold3
    rw [hr, pooled_apply, joined_apply]
    rfl
  rw [← hfour]
  pointwise [k0_pay1, k0_pay27]
  rw [greatest_apply]
  rfl

end Out

end Cert.KernelIdeal.Block
-- ==== Proof.Result.lean ====
/- The arguments as families over indices, and the result that kernel and reference compute of them: the encoder's value of
   a polygon's points, the rows of three tables that its class indices name, and the speed-limit term. -/
module

public import proofs.«01_k».proof.Proof.Encoder
public import Idealize.ShloMosaic.PureOps.Ideal

@[expose] public section

noncomputable section

namespace PolygonEncoder

open Idealize.ShloMosaic
open scoped BigOperators

/-- The arguments, each a family over its array's coordinates. -/
structure Data where
  center : Fin 32 → Fin 512 → Fin 3 → EReal
  kind : Fin 32 → Fin 512 → BitVec 32
  route : Fin 32 → Fin 512 → BitVec 32
  light : Fin 32 → Fin 512 → BitVec 32
  known : Fin 32 → Fin 512 → BitVec 1
  limit : Fin 32 → Fin 512 → EReal
  position : Fin 32 → Fin 512 → Fin 3 → Fin 20 → Fin 2 → EReal
  vector : Fin 32 → Fin 512 → Fin 3 → Fin 20 → Fin 2 → EReal
  orientation : Fin 32 → Fin 512 → Fin 3 → Fin 20 → EReal
  valid : Fin 32 → Fin 512 → Fin 20 → BitVec 1
  W1 : Fin 6 → Fin 128 → EReal
  b1 : Fin 128 → EReal
  W2 : Fin 128 → Fin 256 → EReal
  b2 : Fin 256 → EReal
  W3 : Fin 512 → Fin 256 → EReal
  b3 : Fin 256 → EReal
  W4 : Fin 256 → Fin 128 → EReal
  b4 : Fin 128 → EReal
  limitW1 : Fin 128 → EReal
  limitb1 : Fin 128 → EReal
  limitW2 : Fin 128 → Fin 128 → EReal
  limitb2 : Fin 128 → EReal
  kindRows : Fin 3 → Fin 128 → EReal
  routeRows : Fin 2 → Fin 128 → EReal
  lightRows : Fin 4 → Fin 128 → EReal
  unknown : Fin 128 → EReal

namespace Data

variable (X : Data)

/-- The encoder's weights; the third matrix in its two halves. -/
def weights : Weights where
  W1 := X.W1
  b1 := X.b1
  W2 := X.W2
  b2 := X.b2
  W3 := fun j k => X.W3 ⟨j.val, by omega⟩ k
  W3' := fun j k => X.W3 ⟨256 + j.val, by omega⟩ k
  b3 := X.b3
  W4 := X.W4
  b4 := X.b4

/-- The six features of point `p` of polygon `(b, q)`: its offset from the polygon's center, its direction, and its
    orientation's cosine and sine. -/
def points (b : Fin 32) (q : Fin 512) (p : Fin 20) : Fin 6 → EReal :=
  ![X.position b q 0 p 0 - X.center b q 0, X.position b q 0 p 1 - X.center b q 1, X.vector b q 0 p 0, X.vector b q 0 p 1,
    Ideal.cos (X.orientation b q 0 p), Ideal.sin (X.orientation b q 0 p)]

/-- Point `p` of polygon `(b, q)` is not masked. -/
def shown (b : Fin 32) (q : Fin 512) (p : Fin 20) : Prop := X.valid b q p = 1#1

instance (b : Fin 32) (q : Fin 512) : DecidablePred (X.shown b q) := fun p => inferInstanceAs (Decidable (X.valid b q p = 1#1))

/-- The member of a family that a word names, read without sign. -/
def named {n : ℕ} [NeZero n] (rows : Fin n → Fin 128 → EReal) (i : BitVec 32) : Fin 128 → EReal := rows (Fin.ofNat n i.toNat)

/-- Two layers over a polygon's speed limit. -/
def limitLayers (b : Fin 32) (q : Fin 512) (d : Fin 128) : EReal :=
  ∑ e, max (X.limit b q * X.limitW1 e + X.limitb1 e) 0 * X.limitW2 e d + X.limitb2 d

/-- The result at polygon `(b, q)` and column `d`. -/
def result (b : Fin 32) (q : Fin 512) (d : Fin 128) : EReal :=
  encoder X.weights (X.points b q) (X.shown b q) d + named X.kindRows (X.kind b q) d + named X.routeRows (X.route b q) d
    + named X.lightRows (X.light b q) d + if X.known b q = 1#1 then X.limitLayers b q d else X.unknown d

/-- The class indices name rows, and the numbers that the joined matrix multiplies are real. -/
structure Fits : Prop where
  kind : ∀ b q, (X.kind b q).toNat < 3
  route : ∀ b q, (X.route b q).toNat < 2
  light : ∀ b q, (X.light b q).toNat < 4
  finite : ∀ b q, Finite X.weights (X.points b q) (X.shown b q)

end Data

end PolygonEncoder
-- ==== Proof.Arrays.lean ====
/- What the arrays handed to the pallas_call hold, element by element, as functions of the arguments. -/
module

public import proofs.«01_k».proof.Proof.Gen.KernelIdeal.Value
public import proofs.«01_k».proof.Proof.Result
public import Idealize.ShloMosaic.Lib.Pointwise
public import Idealize.ShloMosaic.Lib.StableHlo.ReadAt
public import Idealize.ShloMosaic.Lib.Routing.OpsOne

@[expose] public section

set_option maxRecDepth 16384

noncomputable section

namespace Cert.KernelIdeal.Arrays

open Cert.KernelIdeal Cert.KernelIdeal.Gen Idealize.ShloMosaic PolygonEncoder
open scoped BigOperators

variable (m : (ℓ : Loc nD τ sig) → Buf (Elt Ideal) ℓ) (c : Dev nD)

/-- The arguments in the memory `m` of device `c`. -/
def data : Data where
  center b q i := m (c, Proc.devRef .tc main_arg0) (ix3 b q i)
  kind b q := m (c, Proc.devRef .tc main_arg1) (ix2 b q)
  route b q := m (c, Proc.devRef .tc main_arg2) (ix2 b q)
  light b q := m (c, Proc.devRef .tc main_arg3) (ix2 b q)
  known b q := m (c, Proc.devRef .tc main_arg4) (ix2 b q)
  limit b q := m (c, Proc.devRef .tc main_arg5) (ix2 b q)
  position b q s p i := m (c, Proc.devRef .tc main_arg6) (ix5 b q s p i)
  vector b q s p i := m (c, Proc.devRef .tc main_arg7) (ix5 b q s p i)
  orientation b q s p := m (c, Proc.devRef .tc main_arg8) (ix4 b q s p)
  valid b q p := m (c, Proc.devRef .tc main_arg9) (ix3 b q p)
  W1 i k := m (c, Proc.devRef .tc main_arg10) (ix2 i k)
  b1 k := m (c, Proc.devRef .tc main_arg11) (ix1 k)
  W2 k j := m (c, Proc.devRef .tc main_arg12) (ix2 k j)
  b2 j := m (c, Proc.devRef .tc main_arg13) (ix1 j)
  W3 j k := m (c, Proc.devRef .tc main_arg14) (ix2 j k)
  b3 k := m (c, Proc.devRef .tc main_arg15) (ix1 k)
  W4 k d := m (c, Proc.devRef .tc main_arg16) (ix2 k d)
  b4 d := m (c, Proc.devRef .tc main_arg17) (ix1 d)
  limitW1 e := m (c, Proc.devRef .tc main_arg18) (ix2 0 e)
  limitb1 e := m (c, Proc.devRef .tc main_arg19) (ix1 e)
  limitW2 e d := m (c, Proc.devRef .tc main_arg20) (ix2 e d)
  limitb2 d := m (c, Proc.devRef .tc main_arg21) (ix1 d)
  kindRows i d := m (c, Proc.devRef .tc main_arg22) (ix2 i d)
  routeRows i d := m (c, Proc.devRef .tc main_arg23) (ix2 i d)
  lightRows i d := m (c, Proc.devRef .tc main_arg24) (ix2 i d)
  unknown d := m (c, Proc.devRef .tc main_arg25) (ix2 0 d)

/-- A one-bit word as a number. -/
theorem word_number (v : BitVec 1) : ((v.toNat : ℝ) : EReal) = if v = 1#1 then 1 else 0 := by
  revert v
  have h : ∀ v : BitVec 1, v = 0#1 ∨ v = 1#1 := by decide
  intro v
  rcases h v with rfl | rfl <;> simp

/-! ## The polygons' data -/

section Points
variable (b : Fin 32) (p : Fin 20) (q : Fin 512) (l : Fin 10240) (hl : l.val = 512 * p.val + q.val)
include hl

/-- The point and the polygon of a lane. -/
theorem lane_parts : l.val / 512 = p.val ∧ (b.val * 512 + l.val % 512) / 512 = b.val
    ∧ (b.val * 512 + l.val % 512) % 512 = q.val ∧ l.val % 512 = q.val := by omega

theorem offset0 : V m c main_v29 (ix3 b 0 l) = ((data m c).position b q 0 p 0 - (data m c).center b q 0 : EReal) := by
  obtain ⟨h1, h2, h3, -⟩ := lane_parts b p q l hl
  unfold V; after_reads_at; after_reads_at
  simp only [h1, h2, h3]
  rfl
theorem offset1 : V m c main_v29 (ix3 b 1 l) = ((data m c).position b q 0 p 1 - (data m c).center b q 1 : EReal) := by
  obtain ⟨h1, h2, h3, -⟩ := lane_parts b p q l hl
  unfold V; after_reads_at; after_reads_at
  simp only [h1, h2, h3]
  rfl
theorem direction0 : V m c main_v29 (ix3 b 2 l) = (data m c).vector b q 0 p 0 := by
  obtain ⟨h1, h2, h3, -⟩ := lane_parts b p q l hl
  unfold V; after_reads_at; after_reads_at
  simp only [h1, h2, h3]
  rfl
theorem direction1 : V m c main_v29 (ix3 b 3 l) = (data m c).vector b q 0 p 1 := by
  obtain ⟨h1, h2, h3, -⟩ := lane_parts b p q l hl
  unfold V; after_reads_at; after_reads_at
  simp only [h1, h2, h3]
  rfl
theorem mask : V m c main_v29 (ix3 b 4 l) = bit ((data m c).shown b q) p := by
  obtain ⟨h1, h2, h3, -⟩ := lane_parts b p q l hl
  unfold V; after_reads_at; after_reads_at
  simp only [h1, h2, h3]
  exact word_number _
theorem angle : V m c main_v33 (ix3 b 0 l) = (data m c).orientation b q 0 p := by
  obtain ⟨h1, h2, h3, h4⟩ := lane_parts b p q l hl
  unfold V; after_reads_at
  simp only [h1, h2, h3, h4]
  rfl
end Points

theorem index (b : Fin 32) (q : Fin 512) (n : Fin 16384) (hn : n.val = b.val * 512 + q.val) :
    V m c main_v40 (ix2 n 0)
      = (data m c).kind b q * 8#32 + (data m c).light b q * 2#32 + (data m c).route b q := by
  have h1 : n.val / 512 = b.val := by omega
  have h2 : n.val % 512 = q.val := by omega
  unfold V; after_reads_at
  simp only [h1, h2]
  rfl
theorem known (b : Fin 32) (q : Fin 512) (n : Fin 16384) (hn : n.val = b.val * 512 + q.val) :
    V m c main_v42 (ix2 n 0) = if (data m c).known b q = 1#1 then (1 : EReal) else 0 := by
  have h1 : n.val / 512 = b.val := by omega
  have h2 : n.val % 512 = q.val := by omega
  unfold V; after_reads_at
  simp only [h1, h2]
  exact word_number _
theorem limit (b : Fin 32) (q : Fin 512) (n : Fin 16384) (hn : n.val = b.val * 512 + q.val) :
    V m c main_v43 (ix2 n 0) = (data m c).limit b q := by
  have h1 : n.val / 512 = b.val := by omega
  have h2 : n.val % 512 = q.val := by omega
  unfold V; after_reads_at
  simp only [h1, h2]
  rfl

/-! ## The matrices -/

/-- A row of zeros with a one written at its last place. -/
theorem corner {N : ℕ} (d : ScatterDims (Routing.shape2 1 (N + 1)) (Routing.shape1 2) Routing.shape0) (hiw : d.insertedWindowDims = [0, 1])
    (hsd : d.scatterDimsToOperandDims = [0, 1]) (hivd : d.indexVectorDim = 0) (x : (Routing.shape2 1 (N + 1)).Idx → EReal)
    (i : IVec (Routing.shape1 2) 32) (u : Routing.shape0.Idx → EReal) (z : Fin 1) (k : Fin (N + 1))
    (h0 : (i (ix1 (0 : Fin 2))).toInt = 0) (h1 : (i (ix1 (1 : Fin 2))).toInt = N) (hx : x (ix2 z k) = 0) (hu : u ix0 = 1) :
    Host.scatter d (fun _ b => b) x i u (ix2 z k) = ext (fun _ : Fin N => (0 : EReal)) 1 k := by
  refine (Routing.scatter_cell_signed d hiw hsd hivd x i u z k).trans ?_
  have hz : z.val = 0 := by omega
  unfold ext
  by_cases h : k.val < N
  · rw [dif_pos h]
    refine (if_neg fun hh => ?_).trans hx
    have : (N : ℤ) = k.val := h1.symm.trans hh.2
    omega
  · rw [dif_neg h]
    exact (if_pos ⟨h0.trans (by omega), h1.trans (by omega)⟩).trans hu

theorem first (k : Fin 129) (i : Fin 7) : V m c main_v53 (ix2 k i) = M1 (data m c).weights k i := by
  unfold V; after_reads_at; after_reads_at
  unfold M1
  rw [ext]
  split
  · rw [ext]; rfl
  · refine corner (N := 6) scatter_S1x7_S2_S__n_01_01_0 rfl rfl rfl _ _ _ _ _ ?_ ?_ ?_ ?_
    · pointwise; after_reads_at; rfl
    · pointwise; after_reads_at; rfl
    · pointwise
    · pointwise

theorem second (j : Fin 257) (k : Fin 129) : V m c main_v68 (ix2 j k) = M2 (data m c).weights j k := by
  unfold V; after_reads_at; after_reads_at
  unfold M2
  rw [ext]
  split
  · rw [ext]; rfl
  · refine corner (N := 128) scatter_S1x129_S2_S__n_01_01_0 rfl rfl rfl _ _ _ _ _ ?_ ?_ ?_ ?_
    · pointwise; after_reads_at; rfl
    · pointwise; after_reads_at; rfl
    · pointwise
    · pointwise

theorem joined (k : Fin 257) (i : Fin 129) : V m c main_v76 (ix2 k i) = M32 (data m c).weights k i := by
  unfold V; after_reads_at; after_reads_at
  unfold M32
  rw [Fin.sum_univ_castSucc (n := 256)]
  refine congrArg₂ (· + ·) (Finset.sum_congr rfl fun j _ => congrArg₂ (· * ·) ?_ ?_) ?_
  · unfold M3
    rw [ext]
    split
    · rw [ext_castSucc]; rfl
    · rfl
  · unfold M2
    rw [ext_castSucc, ext]
    rfl
  · have h : M3 (data m c).weights k (Fin.last 256) = 0 := by
      unfold M3
      rw [ext]
      split
      · rw [ext_last]
      · rfl
    rw [h, zero_mul]
    simp only [dite_eq_ite, ite_self, zero_mul, Finset.sum_const_zero]

theorem third (k j : Fin 257) : V m c main_v82 (ix2 k j) = M3' (data m c).weights k j := by
  unfold V; after_reads_at; after_reads_at
  unfold M3'
  rw [ext]
  split
  · rw [ext]; rfl
  · refine corner (N := 256) scatter_S1x257_S2_S__n_01_01_0 rfl rfl rfl _ _ _ _ _ ?_ ?_ ?_ ?_
    · pointwise; after_reads_at; rfl
    · pointwise; after_reads_at; rfl
    · pointwise
    · pointwise

theorem fourth (d : Fin 128) (j : Fin 257) : V m c main_v86 (ix2 d j) = M4 (data m c).weights d j := by
  unfold V; after_reads_at; after_reads_at
  unfold M4
  rw [ext]
  rfl

/-! ## The table and the speed limit's weights -/

/-- Row `8 a + 2 t + r` of the table of sums. -/
theorem table (n : Fin 24) (d : Fin 128) : V m c main_v96 (ix2 n d)
    = ((data m c).kindRows ⟨n.val / 8, by omega⟩ d + (data m c).lightRows ⟨n.val / 2 % 4, by omega⟩ d
        + (data m c).routeRows ⟨n.val % 2, by omega⟩ d : EReal) := by
  unfold V; after_reads_at
  rfl
theorem limitW1 (e : Fin 128) : V m c main_arg18 (ix2 0 e) = (data m c).limitW1 e := by
  unfold V; after_reads_at
  rfl
theorem limitb1 (e : Fin 128) : V m c main_v97 (ix2 0 e) = (data m c).limitb1 e := by
  unfold V; after_reads_at
  rfl
theorem limitW2 (e d : Fin 128) : V m c main_arg20 (ix2 e d) = (data m c).limitW2 e d := by
  unfold V; after_reads_at
  rfl
theorem limitb2 (d : Fin 128) : V m c main_v98 (ix2 0 d) = (data m c).limitb2 d := by
  unfold V; after_reads_at
  rfl
theorem unknown (d : Fin 128) : V m c main_arg25 (ix2 0 d) = (data m c).unknown d := by
  unfold V; after_reads_at
  rfl

end Cert.KernelIdeal.Arrays
-- ==== Proof.Equation.lean ====
/- The equation: the folded encoder, the table's selected row and the blended speed-limit term sum to the result, where the
   class indices name rows of their tables and the numbers that the joined matrix multiplies are real. -/
module

public import proofs.«01_k».proof.Proof.Result

@[expose] public section

noncomputable section

namespace PolygonEncoder

open scoped BigOperators

namespace Data

variable (X : Data) (b : Fin 32) (q : Fin 512) (d : Fin 128)

/-- The word that names a polygon's row of the table of sums. -/
def code : BitVec 32 := X.kind b q * 8#32 + X.light b q * 2#32 + X.route b q

/-- Row `8 a + 2 t + r` of the table of sums: row `a` of the kinds, `t` of the lights, `r` of the routes. -/
def sums (n : Fin 24) : EReal :=
  X.kindRows ⟨n.val / 8, by omega⟩ d + X.lightRows ⟨n.val / 2 % 4, by omega⟩ d + X.routeRows ⟨n.val % 2, by omega⟩ d

variable {X}

theorem named_eq {n : ℕ} [NeZero n] (rows : Fin n → Fin 128 → EReal) (i : BitVec 32) (k : Fin n) (h : i.toNat = k.val) :
    named rows i d = rows k d := by
  unfold named
  congr 1
  apply Fin.ext
  rw [Fin.val_ofNat, h, Nat.mod_eq_of_lt k.isLt]

/-- The sum over the table's rows of those that the code names is the sum of the three named rows. -/
theorem code_row (hX : X.Fits) : ∑ n : Fin 24, (if BitVec.ofNat 32 n.val = X.code b q then X.sums d n else 0)
    = named X.kindRows (X.kind b q) d + named X.lightRows (X.light b q) d + named X.routeRows (X.route b q) d := by
  have hk := hX.kind b q
  have hr := hX.route b q
  have hl := hX.light b q
  have hc : (X.code b q).toNat = 8 * (X.kind b q).toNat + 2 * (X.light b q).toNat + (X.route b q).toNat := by
    unfold code
    simp only [BitVec.toNat_add, BitVec.toNat_mul, BitVec.toNat_ofNat]
    omega
  generalize (X.kind b q) = k at *
  generalize (X.light b q) = l at *
  generalize (X.route b q) = r at *
  rw [Finset.sum_eq_single (⟨8 * k.toNat + 2 * l.toNat + r.toNat, by omega⟩ : Fin 24)]
  · rw [if_pos (BitVec.eq_of_toNat_eq (by rw [hc, BitVec.toNat_ofNat]; dsimp only; omega))]
    unfold sums
    refine congrArg₂ (· + ·) (congrArg₂ (· + ·) ?_ ?_) ?_
    · exact (named_eq d X.kindRows k _ (by dsimp only; omega)).symm
    · exact (named_eq d X.lightRows l _ (by dsimp only; omega)).symm
    · exact (named_eq d X.routeRows r _ (by dsimp only; omega)).symm
  · intro n _ hn
    refine if_neg fun h => hn (Fin.ext ?_)
    have := congrArg BitVec.toNat h
    rw [hc, BitVec.toNat_ofNat] at this
    dsimp only
    omega
  · exact fun h => absurd (Finset.mem_univ _) h

/-- A blend by zero or one is a choice. -/
theorem blend (p : Prop) [Decidable p] (x y : EReal) :
    (if p then (1 : EReal) else 0) * x + (1 - if p then (1 : EReal) else 0) * y = if p then x else y := by
  split
  · have h : (1 : EReal) - 1 = 0 := EReal.sub_self (EReal.coe_ne_top 1) (EReal.coe_ne_bot 1)
    rw [one_mul, h, zero_mul, add_zero]
  · rw [zero_mul, sub_zero, one_mul, zero_add]

/-- The four parts sum to the result. -/
theorem parts_eq_result (hX : X.Fits) :
    folded (M1 X.weights) (M2 X.weights) (M32 X.weights) (M3' X.weights) (M4 X.weights) (fun p => ext (X.points b q p) 1)
        (bit (X.shown b q)) d
      + ∑ n : Fin 24, (if BitVec.ofNat 32 n.val = X.code b q then X.sums d n else 0)
      + (if X.known b q = 1#1 then (1 : EReal) else 0) * X.limitLayers b q d
      + (1 - if X.known b q = 1#1 then (1 : EReal) else 0) * X.unknown d
    = X.result b q d := by
  rw [folded_eq_encoder (hX.finite b q), code_row b q d hX, add_assoc _ (_ * _), blend]
  unfold result
  simp only [add_assoc, add_left_comm]

end Data

end PolygonEncoder
-- ==== Proof.Blocks.lean ====
/- What the result array holds after the run: at row `512 b + q` the result at polygon `(b, q)`. Grid point `b` handles the
   polygons of scene `b`; its output block is rows `512 b` to `512 b + 511`. -/
module

public import proofs.«01_k».proof.Proof.Block
public import proofs.«01_k».proof.Proof.Arrays
public import proofs.«01_k».proof.Proof.Equation

@[expose] public section

set_option maxRecDepth 16384

noncomputable section

namespace Cert.KernelIdeal.Blocks

open Cert.KernelIdeal Cert.KernelIdeal.Gen Idealize.ShloMosaic PolygonEncoder
open scoped BigOperators

variable (m : (ℓ : Loc nD τ sig) → Buf (Elt Ideal) ℓ) (c : Dev nD)

/-! ## The windows' blocks inside their arrays -/

/-- The scene that a grid point handles. -/
def scene (t : Fin cfg0.N) : Fin 32 := ⟨t.val, by have h := t.isLt; have e : cfg0.N = 32 := N_0; omega⟩

/-- The windows that move by one block per grid point. -/
theorem moving : ∀ t : Fin grid0.N, win0_0.index t = ![t.val, 0, 0] ∧ win0_1.index t = ![t.val, 0, 0] ∧ win0_2.index t = ![t.val, 0]
    ∧ win0_3.index t = ![t.val, 0] ∧ win0_4.index t = ![t.val, 0] ∧ win0_16.index t = ![t.val, 0] := by decide +kernel

/-- The windows that stay. -/
theorem still : ∀ (t : Fin grid0.N) (a : Fin 2), win0_5.index t a = 0 ∧ win0_6.index t a = 0 ∧ win0_7.index t a = 0
    ∧ win0_8.index t a = 0 ∧ win0_9.index t a = 0 ∧ win0_10.index t a = 0 ∧ win0_11.index t a = 0 ∧ win0_12.index t a = 0
    ∧ win0_13.index t a = 0 ∧ win0_14.index t a = 0 ∧ win0_15.index t a = 0 := by decide +kernel

/-- An index of rank three from its coordinates. -/
theorem ix3_ext {n0 n1 n2 : ℕ} {i : (⟨3, ![n0, n1, n2]⟩ : Shape).Idx} {x : Fin n0} {y : Fin n1} {z : Fin n2}
    (h0 : (i 0).val = x.val) (h1 : (i 1).val = y.val) (h2 : (i 2).val = z.val) : i = ix3 x y z := by
  funext a
  apply Fin.ext
  match a with
  | ⟨0, _⟩ => exact h0
  | ⟨1, _⟩ => exact h1
  | ⟨2, _⟩ => exact h2

/-- An index of rank two from its coordinates. -/
theorem ix2_ext {n0 n1 : ℕ} {i : (⟨2, ![n0, n1]⟩ : Shape).Idx} {x : Fin n0} {y : Fin n1}
    (h0 : (i 0).val = x.val) (h1 : (i 1).val = y.val) : i = ix2 x y := by
  funext a
  apply Fin.ext
  match a with
  | ⟨0, _⟩ => exact h0
  | ⟨1, _⟩ => exact h1

variable (t : Fin cfg0.N)

theorem block0 (k : Fin 5) (l : Fin 10240) :
    iblk m c 0 t (ix3 0 k l) = V m c main_v29 (ix3 (scene t) k l) := by
  show V m c main_v29 ((win0_0.rect t).emb (ix3 0 k l)) = _
  refine congrArg _ (ix3_ext ?_ ?_ ?_) <;> rw [win0_0.rect_emb_val, (moving t).1]
  · show t.val * 1 + 0 = t.val
    omega
  · show 0 * 5 + k.val = k.val
    omega
  · show 0 * 10240 + l.val = l.val
    omega

theorem block1 (l : Fin 10240) : iblk m c 1 t (ix3 0 0 l) = V m c main_v33 (ix3 (scene t) 0 l) := by
  show V m c main_v33 ((win0_1.rect t).emb (ix3 0 0 l)) = _
  refine congrArg _ (ix3_ext ?_ ?_ ?_) <;> rw [win0_1.rect_emb_val, (moving t).2.1]
  · show t.val * 1 + 0 = t.val
    omega
  · rfl
  · show 0 * 10240 + l.val = l.val
    omega

/-- The row of the arrays with a row per polygon. -/
def row (q : Fin 512) : Fin 16384 := ⟨(scene t).val * 512 + q.val, by have := (scene t).isLt; omega⟩

theorem block2 (q : Fin 512) : iblk m c 2 t (ix2 q 0) = V m c main_v40 (ix2 (row t q) 0) := by
  show V m c main_v40 ((win0_2.rect t).emb (ix2 q 0)) = _
  refine congrArg _ (ix2_ext ?_ ?_) <;> rw [win0_2.rect_emb_val, (moving t).2.2.1] <;> rfl
theorem block3 (q : Fin 512) : iblk m c 3 t (ix2 q 0) = V m c main_v42 (ix2 (row t q) 0) := by
  show V m c main_v42 ((win0_3.rect t).emb (ix2 q 0)) = _
  refine congrArg _ (ix2_ext ?_ ?_) <;> rw [win0_3.rect_emb_val, (moving t).2.2.2.1] <;> rfl
theorem block4 (q : Fin 512) : iblk m c 4 t (ix2 q 0) = V m c main_v43 (ix2 (row t q) 0) := by
  show V m c main_v43 ((win0_4.rect t).emb (ix2 q 0)) = _
  refine congrArg _ (ix2_ext ?_ ?_) <;> rw [win0_4.rect_emb_val, (moving t).2.2.2.2.1] <;> rfl

/-- A window that stays at block zero reads its array at the block's own indices. -/
theorem emb_still (w : Pipeline.Window sig grid0) (h : ∀ a, w.index t a = 0) (i : (w.xblock (grid0.coords t)).Idx)
    (j : w.shape.Idx) (hij : ∀ a, (j a).val = (i a).val) : (w.rect t).emb i = j :=
  funext fun a => Fin.ext ((w.rect_emb_val_of_index_zero t a (h a) i).trans (hij a).symm)

theorem block5 : iblk m c 5 t = V m c main_v53 :=
  funext fun i => congrArg (V m c main_v53) (emb_still t win0_5 (fun a => (still t a).1) i i fun _ => rfl)
theorem block6 : iblk m c 6 t = V m c main_v68 :=
  funext fun i => congrArg (V m c main_v68) (emb_still t win0_6 (fun a => (still t a).2.1) i i fun _ => rfl)
theorem block7 : iblk m c 7 t = V m c main_v76 :=
  funext fun i => congrArg (V m c main_v76) (emb_still t win0_7 (fun a => (still t a).2.2.1) i i fun _ => rfl)
theorem block8 : iblk m c 8 t = V m c main_v82 :=
  funext fun i => congrArg (V m c main_v82) (emb_still t win0_8 (fun a => (still t a).2.2.2.1) i i fun _ => rfl)
theorem block9 : iblk m c 9 t = V m c main_v86 :=
  funext fun i => congrArg (V m c main_v86) (emb_still t win0_9 (fun a => (still t a).2.2.2.2.1) i i fun _ => rfl)
theorem block10 : iblk m c 10 t = V m c main_arg18 :=
  funext fun i => congrArg (V m c main_arg18) (emb_still t win0_10 (fun a => (still t a).2.2.2.2.2.1) i i fun _ => rfl)
theorem block11 : iblk m c 11 t = V m c main_v97 :=
  funext fun i => congrArg (V m c main_v97) (emb_still t win0_11 (fun a => (still t a).2.2.2.2.2.2.1) i i fun _ => rfl)
theorem block12 : iblk m c 12 t = V m c main_arg20 :=
  funext fun i => congrArg (V m c main_arg20) (emb_still t win0_12 (fun a => (still t a).2.2.2.2.2.2.2.1) i i fun _ => rfl)
theorem block13 : iblk m c 13 t = V m c main_v98 :=
  funext fun i => congrArg (V m c main_v98) (emb_still t win0_13 (fun a => (still t a).2.2.2.2.2.2.2.2.1) i i fun _ => rfl)
theorem block14 : iblk m c 14 t = V m c main_v96 :=
  funext fun i => congrArg (V m c main_v96) (emb_still t win0_14 (fun a => (still t a).2.2.2.2.2.2.2.2.2.1) i i fun _ => rfl)
theorem block15 : iblk m c 15 t = V m c main_arg25 :=
  funext fun i => congrArg (V m c main_arg25) (emb_still t win0_15 (fun a => (still t a).2.2.2.2.2.2.2.2.2.2) i i fun _ => rfl)

/-! ## The result array -/

/-- Row `512 b + q` of the result array is row `q` of what grid point `b` wrote. -/
theorem written (q : Fin 512) (d : Fin 128) : (dats m 0 c).arrAt 16 cfg0.N (ix2 (row t q) d)
    = out0_16 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (ix2 q d) := by
  have h := congrFun ((Value.blocks16 m c t (flush0_16 t)).trans (Value.flushed16 m c t)) (ix2 q d)
  refine Eq.trans ?_ h
  show _ = (dats m 0 c).arrAt 16 cfg0.N ((win0_16.rect t).emb (ix2 q d))
  refine congrArg _ (Eq.symm (ix2_ext ?_ ?_)) <;> rw [win0_16.rect_emb_val, (moving t).2.2.2.2.2]
  · rfl
  · show 0 * 128 + d.val = d.val
    omega

/-- A lane holds the features of its point. -/
theorem features_eq (p : Fin 20) (q : Fin 512) :
    Block.features (iblk m c 0 t) (iblk m c 1 t) (Block.lane p q) = (Arrays.data m c).points (scene t) q p := by
  unfold Block.features Data.points
  rw [block0, block0, block0, block0, block1]
  rw [Arrays.offset0 m c (scene t) p q _ rfl, Arrays.offset1 m c (scene t) p q _ rfl, Arrays.direction0 m c (scene t) p q _ rfl,
    Arrays.direction1 m c (scene t) p q _ rfl, Arrays.angle m c (scene t) p q _ rfl]

/-- A selection by equality of two words. -/
theorem select_eq {α : Type} (a b : BitVec 32) (x y : α) : Scalar.select (IntOp.cmpi .eq a b) x y = if a = b then x else y := by
  by_cases h : a = b
  · subst h; simp [Scalar.select, IntOp.cmpi]
  · have hb : (a == b) = false := by simpa using h
    simp [Scalar.select, IntOp.cmpi, h, hb]

/-- The table's selected row, over the arrays. -/
theorem selected_eq (q : Fin 512) (d : Fin 128) : Block.selected (iblk m c 2 t) (iblk m c 14 t) q d
    = ∑ n : Fin 24, (if BitVec.ofNat 32 n.val = (Arrays.data m c).code (scene t) q then (Arrays.data m c).sums d n else 0) := by
  unfold Block.selected
  refine Finset.sum_congr rfl fun n _ => ?_
  rw [select_eq, block2, block14, Arrays.index m c (scene t) q _ rfl, Arrays.table]
  rfl

/-- The speed-limit term, over the arrays. -/
theorem speed_eq (q : Fin 512) (d : Fin 128) : Block.speed (iblk m c 10 t) (iblk m c 11 t) (iblk m c 12 t) (iblk m c 13 t)
      (iblk m c 3 t (ix2 q 0)) (iblk m c 4 t (ix2 q 0)) d
    = (if (Arrays.data m c).known (scene t) q = 1#1 then (1 : EReal) else 0) * (Arrays.data m c).limitLayers (scene t) q d := by
  unfold Block.speed Data.limitLayers
  rw [block3, block4, block10, block11, block12, block13, Arrays.known m c (scene t) q _ rfl, Arrays.limit m c (scene t) q _ rfl]
  refine congrArg _ (congrArg₂ (· + ·) (Finset.sum_congr rfl fun e _ => ?_) (Arrays.limitb2 m c d))
  rw [Arrays.limitW1 m c e, Arrays.limitb1 m c e, Arrays.limitW2 m c e d]

/-- WHAT THE RESULT ARRAY HOLDS at the row of polygon `(b, q)`, `b` the scene of the grid point. -/
theorem holds (hX : (Arrays.data m c).Fits) (q : Fin 512) (d : Fin 128) :
    (dats m 0 c).arrAt 16 cfg0.N (ix2 (row t q) d) = (Arrays.data m c).result (scene t) q d := by
  rw [written, Block.out_apply, selected_eq, speed_eq, ← Data.parts_eq_result (scene t) q d hX]
  have h1 : (fun k i => iblk m c 5 t (ix2 k i)) = M1 (Arrays.data m c).weights := by
    funext k i; rw [block5, Arrays.first]
  have h2 : (fun j k => iblk m c 6 t (ix2 j k)) = M2 (Arrays.data m c).weights := by
    funext j k; rw [block6, Arrays.second]
  have h3 : (fun k i => iblk m c 7 t (ix2 k i)) = M32 (Arrays.data m c).weights := by
    funext k i; rw [block7, Arrays.joined]
  have h4 : (fun k j => iblk m c 8 t (ix2 k j)) = M3' (Arrays.data m c).weights := by
    funext k j; rw [block8, Arrays.third]
  have h5 : (fun d j => iblk m c 9 t (ix2 d j)) = M4 (Arrays.data m c).weights := by
    funext d j; rw [block9, Arrays.fourth]
  have h6 : (fun p => iblk m c 0 t (ix3 0 4 (Block.lane p q))) = bit ((Arrays.data m c).shown (scene t) q) := by
    funext p; rw [block0, Arrays.mask m c (scene t) p q _ rfl]
  rw [h1, h2, h3, h4, h5, h6, block15, block3, Arrays.unknown, Arrays.known m c (scene t) q _ rfl]
  simp only [features_eq]

/-- WHAT THE RESULT ARRAY HOLDS, index by index. -/
theorem final (hX : (Arrays.data m c).Fits) (b : Fin 32) (q : Fin 512) (n : Fin 16384) (hn : n.val = b.val * 512 + q.val)
    (d : Fin 128) : (dats m 0 c).arrAt 16 cfg0.N (ix2 n d) = (Arrays.data m c).result b q d := by
  have e : cfg0.N = 32 := N_0
  have h := holds m c ⟨b.val, by omega⟩ hX q d
  have hr : n = row ⟨b.val, by omega⟩ q := Fin.ext hn
  rw [hr]
  exact h

end Cert.KernelIdeal.Blocks
-- ==== Proof.Encode.lean ====
/- What the reference's encoder stages hold: its features are the polygon's points, its layers are the layers of
   `PolygonEncoder`, its greatest values over the points are `top`. Row `512 b + q` is polygon `(b, q)`. -/
module

public import proofs.«01_k».proof.Proof.Gen.ReferenceIdeal.Read
public import proofs.«01_k».proof.Proof.Result
public import Idealize.ShloMosaic.Lib.Pointwise

@[expose] public section

set_option maxRecDepth 16384

noncomputable section

namespace Cert.ReferenceIdeal.Encode

open Cert.ReferenceIdeal Cert.ReferenceIdeal.Read Idealize.ShloMosaic PolygonEncoder
open scoped BigOperators

variable (x0 : FVec Ideal S32x512x3 .f32) (x6 x7 : FVec Ideal S32x512x3x20x2 .f32) (x8 : FVec Ideal S32x512x3x20 .f32)
  (x9 : IVec S32x512x20 1) (x10 : FVec Ideal S6x128 .f32) (x11 : FVec Ideal S128 .f32) (x12 : FVec Ideal S128x256 .f32)
  (x13 : FVec Ideal S256 .f32) (x14 : FVec Ideal S512x256 .f32) (x15 : FVec Ideal S256 .f32)
  (x16 : FVec Ideal S256x128 .f32) (x17 : FVec Ideal S128 .f32)

/-- The data `X` holds, on the encoder's arguments, what the arrays hold. -/
structure Holds (X : Data) : Prop where
  center : ∀ b q i, x0 (ix3 b q i) = X.center b q i
  position : ∀ b q s p i, x6 (ix5 b q s p i) = X.position b q s p i
  vector : ∀ b q s p i, x7 (ix5 b q s p i) = X.vector b q s p i
  orientation : ∀ b q s p, x8 (ix4 b q s p) = X.orientation b q s p
  valid : ∀ b q p, x9 (ix3 b q p) = X.valid b q p
  W1 : ∀ i k, x10 (ix2 i k) = X.W1 i k
  b1 : ∀ k, x11 (ix1 k) = X.b1 k
  W2 : ∀ k j, x12 (ix2 k j) = X.W2 k j
  b2 : ∀ j, x13 (ix1 j) = X.b2 j
  W3 : ∀ j k, x14 (ix2 j k) = X.W3 j k
  b3 : ∀ k, x15 (ix1 k) = X.b3 k
  W4 : ∀ k d, x16 (ix2 k d) = X.W4 k d
  b4 : ∀ d, x17 (ix1 d) = X.b4 d

/-- The greatest value of twenty, started at the bottom. -/
theorem fold_top (f : Fin 20 → EReal) : Finset.fold max (Ideal.ofBits FTy.f32 4286578688#32) f Finset.univ = top f := by
  have h : Ideal.ofBits FTy.f32 4286578688#32 = (⊥ : EReal) := by simp [Ideal.ofBits, Ideal.ieee]
  rw [h]
  rfl

/-- The number that replaces a masked point's values. -/
theorem blank : id (constant (F := Ideal) S_ FTy.f32 0#32) ix0 = (0 : EReal) := by
  show constant (F := Ideal) S_ FTy.f32 0#32 ix0 = (0 : EReal)
  pointwise []

/-- A selection by a one-bit word. -/
theorem select_bit (v : BitVec 1) (x y : EReal) : Scalar.select v x y = if v = 1#1 then x else y := rfl

variable {x0 x6 x7 x8 x9 x10 x11 x12 x13 x14 x15 x16 x17} {X : Data}
  (h : Holds x0 x6 x7 x8 x9 x10 x11 x12 x13 x14 x15 x16 x17 X)
  (b : Fin 32) (q : Fin 512) (n : Fin 16384) (hn : n.val = b.val * 512 + q.val)
include h hn

omit h in
/-- The polygon that a row names. -/
theorem polygon : (⟨n.val / 512, by omega⟩ : Fin 32) = b ∧ (⟨n.val % 512, by omega⟩ : Fin 512) = q := by
  have h1 := q.isLt
  constructor <;> apply Fin.ext <;> dsimp only <;> omega

/-- The features of a row's points. -/
theorem features (p : Fin 20) (i : Fin 6) : val_main_v17 (F := Ideal) x0 x6 x7 x8 (ix3 n p i) = X.points b q p i := by
  pointwise [val_main_v17, val_main_v15, val_main_v14, val_main_v13, val_main_v12, val_main_v11, val_main_v10, val_main_v9,
    val_main_v8, val_main_v7, val_main_v6, val_main_v5, val_main_v4, val_main_v3, val_main_v2, val_main_v1, val_main_v0]
  simp only [(polygon b q n hn).1, (polygon b q n hn).2, h.center, h.position, h.vector, h.orientation]
  fin_cases i <;> rfl

/-- The second layer. -/
theorem second (p : Fin 20) (j : Fin 256) :
    val_main_v29 (F := Ideal) x0 x6 x7 x8 x9 x10 x11 x12 x13 (ix3 n p j) = layer2 X.weights (X.points b q) (X.shown b q) p j := by
  pointwise [val_main_v29, val_main_call0_v0, val_main_call0_v1, val_main_call0_v2, val_main_cst_0, val_main_v28, val_main_v16,
    val_main_v27, val_main_v26, val_main_v25, val_main_v24, val_main_v23, val_main_v22, val_main_cst, val_main_v21,
    val_main_v20, val_main_v19, val_main_v18]
  simp only [(polygon b q n hn).1, (polygon b q n hn).2, features h b q n hn, h.valid, h.W1, h.b1, h.W2, h.b2]
  rw [blank]
  exact select_bit _ _ _

/-- The greatest values of the second layer. -/
theorem greatest (j : Fin 256) :
    val_main_v30 (F := Ideal) x0 x6 x7 x8 x9 x10 x11 x12 x13 (ix2 n j) = pooled X.weights (X.points b q) (X.shown b q) j := by
  pointwise [val_main_v30, val_main_cst_1]
  simp only [second h b q n hn]
  exact fold_top _

/-- The third layer. -/
theorem third (p : Fin 20) (k : Fin 256) :
    val_main_v39 (F := Ideal) x0 x6 x7 x8 x9 x10 x11 x12 x13 x14 x15 (ix3 n p k)
      = layer3 X.weights (X.points b q) (X.shown b q) p k := by
  pointwise [val_main_v39, val_main_v38, val_main_cst_2, val_main_v37, val_main_v36, val_main_v35, val_main_v34, val_main_v33,
    val_main_v32, val_main_v31]
  simp only [second h b q n hn, greatest h b q n hn, h.W3, h.b3]
  rfl

/-- The fourth layer. -/
theorem fourth (p : Fin 20) (d : Fin 128) :
    val_main_v45 (F := Ideal) x0 x6 x7 x8 x9 x10 x11 x12 x13 x14 x15 x16 x17 (ix3 n p d)
      = layer4 X.weights (X.points b q) (X.shown b q) p d := by
  pointwise [val_main_v45, val_main_call1_v2, val_main_call1_v1, val_main_call1_v0, val_main_cst_3, val_main_v44, val_main_v16,
    val_main_v43, val_main_v42, val_main_v41, val_main_v40]
  simp only [(polygon b q n hn).1, (polygon b q n hn).2, third h b q n hn, h.valid, h.W4, h.b4]
  rw [blank]
  exact select_bit _ _ _

omit hn in
/-- The encoder's value at a polygon. -/
theorem encoded (d : Fin 128) :
    val_main_v47 (F := Ideal) x0 x6 x7 x8 x9 x10 x11 x12 x13 x14 x15 x16 x17 (ix3 b q d)
      = encoder X.weights (X.points b q) (X.shown b q) d := by
  pointwise [val_main_v47, val_main_v46, val_main_cst_4]
  refine (fold_top _).trans (congrArg top (funext fun p => ?_))
  exact fourth h b q ⟨b.val * 512 + q.val, by omega⟩ rfl p d

end Cert.ReferenceIdeal.Encode
-- ==== Proof.Lookup.lean ====
/- What the reference's three table lookups hold: the row that the class index names. A lookup first adds the table's length
   to a negative index, then reads the row at the index brought into the table, and puts a fill value where the index lay
   outside; an index inside the table takes its own row. -/
module

public import proofs.«01_k».proof.Proof.Gen.ReferenceIdeal.Read
public import proofs.«01_k».proof.Proof.Result
public import Idealize.ShloMosaic.Lib.Pointwise

@[expose] public section

set_option maxRecDepth 16384

noncomputable section

namespace Cert.ReferenceIdeal.Lookup

open Cert.ReferenceIdeal Cert.ReferenceIdeal.Read Idealize.ShloMosaic PolygonEncoder

/-- Reading rows of a table by an array of indices, one to each polygon. -/
abbrev rowDims (N : ℕ) (wf : GatherDims.WF ⟨2, ![N, 128]⟩ S32x512x1 S32x512x128 [2] [0] [] [0] [] 2 ![1, 128]) :
    GatherDims ⟨2, ![N, 128]⟩ S32x512x1 S32x512x128 where
  offsetDims := [2]
  collapsedSliceDims := [0]
  operandBatchingDims := []
  startIndicesBatchingDims := []
  startIndexMap := [0]
  indexVectorDim := 2
  sliceSizes := ![1, 128]
  wf := wf

/-- A word below `2 ^ 31` is the same number with and without sign. -/
theorem signed_small {v : BitVec 32} (h : v.toNat < 2 ^ 31) : v.toInt = v.toNat := by
  rw [BitVec.toInt_eq_toNat_cond, if_pos (by omega)]

/-- The row read at a polygon whose index is inside the table. -/
theorem row_named {N : ℕ} [NeZero N] (hN : N ≤ 4)
    (wf : GatherDims.WF ⟨2, ![N, 128]⟩ S32x512x1 S32x512x128 [2] [0] [] [0] [] 2 ![1, 128])
    (rows : FVec Ideal ⟨2, ![N, 128]⟩ .f32) (idx : IVec S32x512x1 32) (b : Fin 32) (q : Fin 512) (d : Fin 128)
    (v : BitVec 32) (hv : idx (ix3 b q 0) = v) (h : v.toNat < N) :
    Host.gather (rowDims N wf) rows idx (ix3 b q d) = Data.named (fun i d => rows (ix2 i d)) v d := by
  subst hv
  have hs := signed_small (v := idx (ix3 b q 0)) (by omega)
  refine congrArg rows (funext fun a => Fin.ext ?_)
  match a with
  | ⟨0, _⟩ =>
    show min (idx _).toInt.toNat (N - 1) + 0 + 0 = (idx (ix3 b q 0)).toNat % N
    have hi : ∀ k, (rowDims N wf).siIdx (ix3 b q d) k = ix3 b q 0 := by
      intro k
      funext a
      match a with
      | ⟨0, _⟩ => rfl
      | ⟨1, _⟩ => rfl
      | ⟨2, _⟩ => exact Subsingleton.elim (α := Fin 1) _ _
    rw [hi, hs, Nat.mod_eq_of_lt h]
    omega
  | ⟨1, _⟩ =>
    have h1 : ∀ x : Fin 2, x.val = 1 → x ∉ ([0] : List (Fin 2)) := fun x hx h => by simp at h; omega
    have h2 : (⟨1, by omega⟩ : Fin 2) ∈ (rowDims N wf).sKept := ((rowDims N wf).mem_sKept _).2 ⟨h1 _ rfl, List.not_mem_nil⟩
    have h3 : ∀ x : Fin 3, x ∈ ([2] : List (Fin 3)) → (ix3 b q d x).val = d.val := fun x hx => by rw [List.mem_singleton.1 hx]; rfl
    show (rowDims N wf).start (ix3 b q d) idx _ + (rowDims N wf).batchCoord (ix3 b q d) _ + (rowDims N wf).offCoord (ix3 b q d) _ = d.val
    rw [GatherDims.start, dif_neg (h1 _ rfl), GatherDims.batchCoord, dif_neg List.not_mem_nil, GatherDims.offCoord, dif_pos h2,
      h3 _ (List.getElem_mem _)]
    omega

/-- The index after a negative one is moved up by the table's length, where it is not negative. -/
theorem kept {N : ℕ} (hN : N ≤ 4) (v : BitVec 32) (h : v.toNat < N) (w : BitVec 32) :
    Scalar.select (IntOp.cmpi .slt v 0#32) w v = v := by
  have hs := signed_small (v := v) (by omega)
  have hb : v.slt 0#32 = false := by simp [BitVec.slt, hs]
  simp [Scalar.select, IntOp.cmpi, hb]

/-- The test that an index lies inside the table, where it does. -/
theorem inside {N : ℕ} (hN : N ≤ 4) (v : BitVec 32) (h : v.toNat < N) (x y : EReal) (last : BitVec 32) (hl : last.toNat + 1 = N) :
    Scalar.select (IntOp.andi (IntOp.andi (IntOp.cmpi .sge v 0#32) (IntOp.cmpi .sle v last)) 1#1) x y = x := by
  have hs := signed_small (v := v) (by omega)
  have ht := signed_small (v := last) (by omega)
  have h0 : (0#32).sle v = true := by simp [BitVec.sle, hs]
  have h1 : v.sle last = true := by simp [BitVec.sle, hs, ht]; omega
  simp [Scalar.select, IntOp.cmpi, h0, h1, IntOp.andi]

variable (x1 x2 x3 : IVec S32x512 32) (x22 : FVec Ideal S3x128 .f32) (x23 : FVec Ideal S2x128 .f32) (x24 : FVec Ideal S4x128 .f32)
  (b : Fin 32) (q : Fin 512) (d : Fin 128)

/-- The first table's lookup. -/
theorem kind (h : (x1 (ix2 b q)).toNat < 3) :
    val_main_v48 (F := Ideal) x1 x22 (ix3 b q d) = Data.named (fun i d => x22 (ix2 i d)) (x1 (ix2 b q)) d := by
  have hi : ∀ k : Fin 1, val_main_call2_v5 (F := Ideal) x1 (ix3 b q k) = x1 (ix2 b q) := by
    intro k
    pointwise [val_main_call2_v5, val_main_call2_v4, val_main_call2_v3, val_main_call2_v2, val_main_call2_v1, val_main_call2_v0,
      val_main_call2_c, val_main_call2_c_0]
    exact kept (by decide) _ h _
  pointwise [val_main_v48, val_main_call2_v14, val_main_call2_v12, val_main_call2_v11, val_main_call2_v10, val_main_call2_v7,
    val_main_call2_v6, val_main_call2_c_2, val_main_call2_v9, val_main_call2_v8, val_main_call2_c_1, val_main_call2_c_3]
  simp only [hi]
  exact (inside (by decide) _ h _ _ _ rfl).trans (row_named (by decide) _ _ _ b q d _ (hi 0) h)

/-- The second table's lookup. -/
theorem route (h : (x2 (ix2 b q)).toNat < 2) :
    val_main_v49 (F := Ideal) x2 x23 (ix3 b q d) = Data.named (fun i d => x23 (ix2 i d)) (x2 (ix2 b q)) d := by
  have hi : ∀ k : Fin 1, val_main_call3_v5 (F := Ideal) x2 (ix3 b q k) = x2 (ix2 b q) := by
    intro k
    pointwise [val_main_call3_v5, val_main_call3_v4, val_main_call3_v3, val_main_call3_v2, val_main_call3_v1, val_main_call3_v0,
      val_main_call3_c, val_main_call3_c_0]
    exact kept (by decide) _ h _
  pointwise [val_main_v49, val_main_call3_v14, val_main_call3_v12, val_main_call3_v11, val_main_call3_v10, val_main_call3_v7,
    val_main_call3_v6, val_main_call3_c_2, val_main_call3_v9, val_main_call3_v8, val_main_call3_c_1, val_main_call3_c_3]
  simp only [hi]
  exact (inside (by decide) _ h _ _ _ rfl).trans (row_named (by decide) _ _ _ b q d _ (hi 0) h)

/-- The third table's lookup. -/
theorem light (h : (x3 (ix2 b q)).toNat < 4) :
    val_main_v50 (F := Ideal) x3 x24 (ix3 b q d) = Data.named (fun i d => x24 (ix2 i d)) (x3 (ix2 b q)) d := by
  have hi : ∀ k : Fin 1, val_main_call4_v5 (F := Ideal) x3 (ix3 b q k) = x3 (ix2 b q) := by
    intro k
    pointwise [val_main_call4_v5, val_main_call4_v4, val_main_call4_v3, val_main_call4_v2, val_main_call4_v1, val_main_call4_v0,
      val_main_call4_c, val_main_call4_c_0]
    exact kept (by decide) _ h _
  pointwise [val_main_v50, val_main_call4_v14, val_main_call4_v12, val_main_call4_v11, val_main_call4_v10, val_main_call4_v7,
    val_main_call4_v6, val_main_call4_c_2, val_main_call4_v9, val_main_call4_v8, val_main_call4_c_1, val_main_call4_c_3]
  simp only [hi]
  exact (inside (by decide) _ h _ _ _ rfl).trans (row_named (by decide) _ _ _ b q d _ (hi 0) h)

end Cert.ReferenceIdeal.Lookup
-- ==== Proof.Reference.lean ====
/- What the reference's result array holds: at row `512 b + q` the result at polygon `(b, q)`, where the class indices name
   rows of their tables. -/
module

public import proofs.«01_k».proof.Proof.Encode
public import proofs.«01_k».proof.Proof.Lookup

@[expose] public section

set_option maxRecDepth 16384

noncomputable section

namespace Cert.ReferenceIdeal.Final

open Cert.ReferenceIdeal Cert.ReferenceIdeal.Read Idealize.ShloMosaic PolygonEncoder
open scoped BigOperators

/-- The speed-limit term: two layers over the limit where it is known, a fixed row where it is not. -/
theorem limit_term (x4 : IVec S32x512 1) (x5 : FVec Ideal S32x512 .f32) (x18 : FVec Ideal S1x128 .f32) (x19 : FVec Ideal S128 .f32)
    (x20 : FVec Ideal S128x128 .f32) (x21 : FVec Ideal S128 .f32) (x25 : FVec Ideal S1x128 .f32)
    (b : Fin 32) (q : Fin 512) (d : Fin 128) :
    val_main_v64 (F := Ideal) x4 x5 x18 x19 x20 x21 x25 (ix3 b q d)
      = if x4 (ix2 b q) = 1#1 then
          ∑ e, max (x5 (ix2 b q) * x18 (ix2 0 e) + x19 (ix1 e)) 0 * x20 (ix2 e d) + x21 (ix1 d)
        else x25 (ix2 0 d) := by
  pointwise [val_main_v64, val_main_call5_v0, val_main_call5_v1, val_main_v63, val_main_v62, val_main_v61, val_main_v60,
    val_main_v59, val_main_v58, val_main_v57, val_main_v56, val_main_cst_5, val_main_v55, val_main_v54, val_main_v53,
    val_main_v52, val_main_v51]
  simp only [Fin.sum_univ_one]
  exact Encode.select_bit _ _ _

/-- The result array at a row: the sum of the five terms at the row's polygon. -/
theorem sum_at (x0 : FVec Ideal S32x512x3 .f32) (x1 x2 x3 : IVec S32x512 32) (x4 : IVec S32x512 1) (x5 : FVec Ideal S32x512 .f32)
    (x6 x7 : FVec Ideal S32x512x3x20x2 .f32) (x8 : FVec Ideal S32x512x3x20 .f32) (x9 : IVec S32x512x20 1)
    (x10 : FVec Ideal S6x128 .f32) (x11 : FVec Ideal S128 .f32) (x12 : FVec Ideal S128x256 .f32) (x13 : FVec Ideal S256 .f32)
    (x14 : FVec Ideal S512x256 .f32) (x15 : FVec Ideal S256 .f32) (x16 : FVec Ideal S256x128 .f32) (x17 : FVec Ideal S128 .f32)
    (x18 : FVec Ideal S1x128 .f32) (x19 : FVec Ideal S128 .f32) (x20 : FVec Ideal S128x128 .f32) (x21 : FVec Ideal S128 .f32)
    (x22 : FVec Ideal S3x128 .f32) (x23 : FVec Ideal S2x128 .f32) (x24 : FVec Ideal S4x128 .f32) (x25 : FVec Ideal S1x128 .f32)
    (b : Fin 32) (q : Fin 512) (n : Fin 16384) (hn : n.val = b.val * 512 + q.val) (d : Fin 128) :
    val_main_v69 (F := Ideal) x0 x1 x2 x3 x4 x5 x6 x7 x8 x9 x10 x11 x12 x13 x14 x15 x16 x17 x18 x19 x20 x21 x22 x23 x24 x25 (ix2 n d)
      = val_main_v47 (F := Ideal) x0 x6 x7 x8 x9 x10 x11 x12 x13 x14 x15 x16 x17 (ix3 b q d)
        + val_main_v48 (F := Ideal) x1 x22 (ix3 b q d) + val_main_v49 (F := Ideal) x2 x23 (ix3 b q d)
        + val_main_v50 (F := Ideal) x3 x24 (ix3 b q d) + val_main_v64 (F := Ideal) x4 x5 x18 x19 x20 x21 x25 (ix3 b q d) := by
  have hp := Encode.polygon b q n hn
  pointwise [val_main_v69]
  rw [hp.1, hp.2, val_main_v68_apply, val_main_v67_apply, val_main_v66_apply, val_main_v65_apply]
  rfl

variable (m : (ℓ : Loc nD τ sig) → Buf (Elt Ideal) ℓ) (c : Dev nD)

/-- The arguments in memory, as families. -/
def data : Data where
  center b q i := m (c, Proc.devRef .tc main_arg0) (ix3 b q i)
  kind b q := m (c, Proc.devRef .tc main_arg1) (ix2 b q)
  route b q := m (c, Proc.devRef .tc main_arg2) (ix2 b q)
  light b q := m (c, Proc.devRef .tc main_arg3) (ix2 b q)
  known b q := m (c, Proc.devRef .tc main_arg4) (ix2 b q)
  limit b q := m (c, Proc.devRef .tc main_arg5) (ix2 b q)
  position b q s p i := m (c, Proc.devRef .tc main_arg6) (ix5 b q s p i)
  vector b q s p i := m (c, Proc.devRef .tc main_arg7) (ix5 b q s p i)
  orientation b q s p := m (c, Proc.devRef .tc main_arg8) (ix4 b q s p)
  valid b q p := m (c, Proc.devRef .tc main_arg9) (ix3 b q p)
  W1 i k := m (c, Proc.devRef .tc main_arg10) (ix2 i k)
  b1 k := m (c, Proc.devRef .tc main_arg11) (ix1 k)
  W2 k j := m (c, Proc.devRef .tc main_arg12) (ix2 k j)
  b2 j := m (c, Proc.devRef .tc main_arg13) (ix1 j)
  W3 j k := m (c, Proc.devRef .tc main_arg14) (ix2 j k)
  b3 k := m (c, Proc.devRef .tc main_arg15) (ix1 k)
  W4 k d := m (c, Proc.devRef .tc main_arg16) (ix2 k d)
  b4 d := m (c, Proc.devRef .tc main_arg17) (ix1 d)
  limitW1 e := m (c, Proc.devRef .tc main_arg18) (ix2 0 e)
  limitb1 e := m (c, Proc.devRef .tc main_arg19) (ix1 e)
  limitW2 e d := m (c, Proc.devRef .tc main_arg20) (ix2 e d)
  limitb2 d := m (c, Proc.devRef .tc main_arg21) (ix1 d)
  kindRows i d := m (c, Proc.devRef .tc main_arg22) (ix2 i d)
  routeRows i d := m (c, Proc.devRef .tc main_arg23) (ix2 i d)
  lightRows i d := m (c, Proc.devRef .tc main_arg24) (ix2 i d)
  unknown d := m (c, Proc.devRef .tc main_arg25) (ix2 0 d)

/-- The encoder's arguments in memory hold the data. -/
theorem holds : Encode.Holds (m (c, Proc.devRef .tc main_arg0)) (m (c, Proc.devRef .tc main_arg6))
    (m (c, Proc.devRef .tc main_arg7)) (m (c, Proc.devRef .tc main_arg8)) (m (c, Proc.devRef .tc main_arg9))
    (m (c, Proc.devRef .tc main_arg10)) (m (c, Proc.devRef .tc main_arg11)) (m (c, Proc.devRef .tc main_arg12))
    (m (c, Proc.devRef .tc main_arg13)) (m (c, Proc.devRef .tc main_arg14)) (m (c, Proc.devRef .tc main_arg15))
    (m (c, Proc.devRef .tc main_arg16)) (m (c, Proc.devRef .tc main_arg17)) (data m c) := by
  constructor <;> intros <;> rfl

/-- The result array at a row, where the class indices name rows. -/
theorem final (hkind : ∀ b q, ((data m c).kind b q).toNat < 3) (hroute : ∀ b q, ((data m c).route b q).toNat < 2)
    (hlight : ∀ b q, ((data m c).light b q).toNat < 4) (b : Fin 32) (q : Fin 512) (n : Fin 16384)
    (hn : n.val = b.val * 512 + q.val) (d : Fin 128) :
    Cert.ReferenceIdeal.Value.res_main_v69 m c (ix2 n d) = (data m c).result b q d := by
  refine (congrFun (val_main_v69_eq (F := Ideal) m c) (ix2 n d)).trans ((sum_at _ _ _ _ _ _ _ _ _ _ _ _ _ _ _ _ _ _ _ _ _ _ _ _ _ _ b q n hn d).trans ?_)
  have add : ∀ {x y u v : EReal}, x = y → u = v → x + u = y + v := fun h k => by rw [h, k]
  exact add (add (add (add (Encode.encoded (holds m c) b q d) (Lookup.kind _ _ b q d (hkind b q)))
    (Lookup.route _ _ b q d (hroute b q))) (Lookup.light _ _ b q d (hlight b q))) (limit_term _ _ _ _ _ _ _ b q d)

end Cert.ReferenceIdeal.Final
-- ==== Proof.Pre.lean ====
/- What the precondition says of the arguments: the class indices lie inside their tables, and the numbers that the joined
   matrix multiplies are real, those of the shown points among them. -/
module

public import proofs.«01_k».proof.Defs
public import proofs.«01_k».proof.Proof.Arrays
public import proofs.«01_k».proof.Proof.Gen.Pre_finite_and_in_range
public import Idealize.ShloMosaic.Lib.ReduceAll
public import Idealize.ShloMosaic.Lib.Pointwise

@[expose] public section

set_option maxRecDepth 16384

noncomputable section

namespace Cert.PreFits

open Cert.KernelIdeal Idealize.ShloMosaic PolygonEncoder

/-- An array of one number has one index. -/
theorem one_index (i j : (⟨0, ![]⟩ : Shape).Idx) : i = j := funext fun a => a.elim0

/-- A number whose difference with itself is zero is real. -/
theorem real_of_sub (x : EReal) (h : x - x = 0) : IsReal x := by
  induction x with
  | coe r => exact ⟨r, rfl⟩
  | top => exact absurd h (by simp)
  | bot => exact absurd h (by simp)

/-- The test that every number of an array is real. -/
theorem all_real {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (e : Host.reduce IntOp.andi (cmpf .oeq (subf x x) (broadcastInDim s ![] hb (constant ⟨0, ![]⟩ .f32 0#32)))
      (constantI ⟨0, ![]⟩ 1 1#1) hr hu j = 1#1) (i : s.Idx) : IsReal (x i) := by
  have : Subsingleton (⟨0, ![]⟩ : Shape).Idx := ⟨one_index⟩
  have h := Host.reduce_andi_all _ _ hr hu j e i
  have z : broadcastInDim s ![] hb (constant (F := Ideal) ⟨0, ![]⟩ .f32 0#32) i = (0 : EReal) := by
    show constant (F := Ideal) ⟨0, ![]⟩ .f32 0#32 _ = (0 : EReal)
    pointwise []
  apply real_of_sub
  have h' : BitVec.ofBool (decide (x i - x i = broadcastInDim s ![] hb (constant (F := Ideal) ⟨0, ![]⟩ .f32 0#32) i)) = 1#1 := h
  rw [z] at h'
  by_contra hn
  rw [decide_eq_false hn] at h'
  exact absurd h' (by decide)

/-- The test that every word of an array lies in `[0, k)`. -/
theorem all_below {s : Shape} {axes : List (Fin s.rank)} (x : IVec s 32) (k : BitVec 32) (hk : k.toNat < 2 ^ 31)
    (hb : (⟨0, ![]⟩ : Shape).BroadcastsInDim s ![])
    (hr : s.ReducesTo axes ⟨0, ![]⟩) (hu : 0 < (⟨0, ![]⟩ : Shape).numel) (j : (⟨0, ![]⟩ : Shape).Idx)
    (e : Host.reduce IntOp.andi (andi (cmpi .sge x (broadcastInDim s ![] hb (constantI ⟨0, ![]⟩ 32 0#32)))
      (cmpi .slt x (broadcastInDim s ![] hb (constantI ⟨0, ![]⟩ 32 k)))) (constantI ⟨0, ![]⟩ 1 1#1) hr hu j = 1#1) (i : s.Idx) :
    (x i).toNat < k.toNat := by
  have : Subsingleton (⟨0, ![]⟩ : Shape).Idx := ⟨one_index⟩
  have h : IntOp.andi (BitVec.ofBool ((0#32).sle (x i))) (BitVec.ofBool ((x i).slt k)) = 1#1 := Host.reduce_andi_all _ _ hr hu j e i
  have ofBool : ∀ p : Bool, BitVec.ofBool p = 1#1 → p = true := by decide
  obtain ⟨h0, h1⟩ := IntOp.andi_eq_one.1 h
  have h0 := ofBool _ h0
  have h1 := ofBool _ h1
  simp only [BitVec.sle, BitVec.slt, decide_eq_true_eq, BitVec.toInt, BitVec.toNat_ofNat] at h0 h1
  omega

/-- The cosine of a real number is real. -/
theorem real_cos {x : EReal} : IsReal x → IsReal (Idealize.ShloMosaic.Ideal.cos x) := by
  rintro ⟨r, rfl⟩
  exact ⟨_, rfl⟩

/-- The sine of a real number is real. -/
theorem real_sin {x : EReal} : IsReal x → IsReal (Idealize.ShloMosaic.Ideal.sin x) := by
  rintro ⟨r, rfl⟩
  exact ⟨_, rfl⟩

section Slices

variable (b : Fin 32) (q : Fin 512) (p : Fin 20)

/-- The first polyline's pairs, cut out of their array. -/
theorem first_pair (x : FVec Ideal Pre_finite_and_in_range.S32x512x3x20x2 .f32) (h1 h2) (i : Fin 2) :
    shapeCast Pre_finite_and_in_range.S32x512x20x2
      (extractStridedSlice Pre_finite_and_in_range.S32x512x1x20x2 ![0, 0, 0, 0, 0] x h1) h2 (ix4 b q p i) = x (ix5 b q 0 p i) := by
  pointwise []

/-- The first polyline's numbers, cut out of their array. -/
theorem first_single (x : FVec Ideal Pre_finite_and_in_range.S32x512x3x20 .f32) (h1 h2) :
    shapeCast Pre_finite_and_in_range.S32x512x20
      (extractStridedSlice Pre_finite_and_in_range.S32x512x1x20 ![0, 0, 0, 0] x h1) h2 (ix3 b q p) = x (ix4 b q 0 p) := by
  pointwise []

/-- The first two coordinates, cut out of their array and repeated at every point. -/
theorem first_two (x : FVec Ideal Pre_finite_and_in_range.S32x512x3 .f32) (h1 h2 h3) (i : Fin 2) :
    broadcastInDim Pre_finite_and_in_range.S32x512x20x2 ![0, 1, 2, 3] h3 (broadcastInDim Pre_finite_and_in_range.S32x512x1x2 ![0, 1, 3] h2
      (extractStridedSlice Pre_finite_and_in_range.S32x512x2 ![0, 0, 0] x h1)) (ix4 b q p i) = x (ix3 b q ⟨i.val, by omega⟩) := by
  pointwise []

/-- The upper half of a matrix, cut out of it. -/
theorem upper_half (x : FVec Ideal Pre_finite_and_in_range.S512x256 .f32) (h1) (j k : Fin 256) :
    extractStridedSlice Pre_finite_and_in_range.S256x256 ![0, 0] x h1 (ix2 j k) = x (ix2 ⟨j.val, by omega⟩ k) := by
  pointwise []

/-- The pairs of the points that a mask keeps. -/
theorem kept_pair (v : IVec Pre_finite_and_in_range.S32x512x20 1) (hv : v (ix3 b q p) = 1#1)
    (x : FVec Ideal Pre_finite_and_in_range.S32x512x20x2 .f32) (z h) (i : Fin 2) :
    Pre_finite_and_in_range.fn_where (broadcastInDim Pre_finite_and_in_range.S32x512x20x1 ![0, 1, 2] h v) x z (ix4 b q p i)
      = x (ix4 b q p i) := by
  have e : broadcastInDim Pre_finite_and_in_range.S32x512x20x2 ![0, 1, 2, 3]
      Pre_finite_and_in_range.Facts.bcast_S32x512x20x1_S32x512x20x2_0_1_2_3
      (broadcastInDim Pre_finite_and_in_range.S32x512x20x1 ![0, 1, 2] h v) (ix4 b q p i) = v (ix3 b q p) := by pointwise []
  exact if_pos (e.trans hv)

/-- The numbers of the points that a mask keeps. -/
theorem kept_single (v : IVec Pre_finite_and_in_range.S32x512x20 1) (hv : v (ix3 b q p) = 1#1)
    (x : FVec Ideal Pre_finite_and_in_range.S32x512x20 .f32) (z) :
    Pre_finite_and_in_range.fn_where_0 v x z (ix3 b q p) = x (ix3 b q p) :=
  if_pos hv

end Slices

/-- Under the precondition the arguments fit. -/
theorem fits (m : (ℓ : Loc nD τ sig) → Buf (Elt Ideal) ℓ) (h : Cert.Pre_KernelIdeal_finite_and_in_range m) (c : Dev nD) :
    (Arrays.data m c).Fits := by
  have e := congrFun (h c) ix0
  simp only [Pre_finite_and_in_range.fn, Pre_finite_and_in_range.fn_part1, Pre_finite_and_in_range.fn_part2,
    Pre_finite_and_in_range.fn_part3, Pre_finite_and_in_range.fn_part4, andi_apply, IntOp.andi_eq_one] at e
  obtain ⟨⟨⟨⟨⟨⟨⟨⟨⟨ekind, eroute⟩, elight⟩, eoffset⟩, evector⟩, eorientation⟩, eW1⟩, eb1⟩, eW2⟩, eW3⟩ := e
  have offset : ∀ b q p, (Arrays.data m c).shown b q p → ∀ i : Fin 2,
      IsReal ((Arrays.data m c).position b q 0 p i - (Arrays.data m c).center b q ⟨i.val, by omega⟩) := fun b q p hp i =>
    Eq.subst (motive := IsReal) ((kept_pair b q p _ hp _ _ _ i).trans
      (congrArg₂ (fun x y : EReal => x - y) (first_pair b q p _ _ _ i) (first_two b q p _ _ _ _ i)))
      (all_real _ _ _ _ _ eoffset (ix4 b q p i))
  have vector : ∀ b q p, (Arrays.data m c).shown b q p → ∀ i, IsReal ((Arrays.data m c).vector b q 0 p i) := fun b q p hp i =>
    Eq.subst (motive := IsReal) ((kept_pair b q p _ hp _ _ _ i).trans (first_pair b q p _ _ _ i))
      (all_real _ _ _ _ _ evector (ix4 b q p i))
  have orientation : ∀ b q p, (Arrays.data m c).shown b q p → IsReal ((Arrays.data m c).orientation b q 0 p) := fun b q p hp =>
    Eq.subst (motive := IsReal) ((kept_single b q p _ hp _ _).trans (first_single b q p _ _ _))
      (all_real _ _ _ _ _ eorientation (ix3 b q p))
  refine ⟨fun b q => all_below _ _ (by decide) _ _ _ _ ekind (ix2 b q), fun b q => all_below _ _ (by decide) _ _ _ _ eroute (ix2 b q),
    fun b q => all_below _ _ (by decide) _ _ _ _ elight (ix2 b q), fun b q => ?_⟩
  constructor
  · exact fun i k => all_real _ _ _ _ _ eW1 (ix2 i k)
  · exact fun k => all_real _ _ _ _ _ eb1 (ix1 k)
  · exact fun k j => all_real _ _ _ _ _ eW2 (ix2 k j)
  · exact fun j k => Eq.subst (motive := IsReal) (upper_half _ _ j k) (all_real _ _ _ _ _ eW3 (ix2 j k))
  · intro p hp i
    fin_cases i
    · exact offset b q p hp 0
    · exact offset b q p hp 1
    · exact vector b q p hp 0
    · exact vector b q p hp 1
    · exact real_cos (orientation b q p hp)
    · exact real_sin (orientation b q p hp)

end Cert.PreFits
-- ==== Proof.lean ====
/- The claims about the polygon encoder. Each program leaves its arguments unchanged and its counters at zero; the
   kernel's idealization changes nothing; and where the precondition holds, the kernel and the reference return the same
   array over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_and_in_range
public import proofs.«01_k».proof.Proof.Blocks
public import proofs.«01_k».proof.Proof.Reference
public import proofs.«01_k».proof.Proof.Pre
public import Idealize.ShloMosaic.Lib.Quiescent

@[expose] public section

set_option maxRecDepth 16384

noncomputable section

namespace Cert.Proof

open Idealize.ShloMosaic Idealize.SL.Sem PolygonEncoder

/-- The reference ends with its arguments unchanged and its counters at zero: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Where the two memories agree on the arguments, they hold the same data. -/
theorem data_eq
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Final.data m' c = Cert.KernelIdeal.Arrays.data m c := by
  obtain ⟨h0, h1, h2, h3, h4, h5, h6, h7, h8, h9, h10, h11, h12, h13, h14, h15, h16, h17, h18, h19, h20, h21, h22, h23, h24, h25⟩ := h
  simp only [Cert.ReferenceIdeal.Final.data, Cert.KernelIdeal.Arrays.data, Data.mk.injEq]
  exact ⟨funext fun _ => funext fun _ => funext fun _ => congrFun h0 _,
    funext fun _ => funext fun _ => congrFun h1 _,
    funext fun _ => funext fun _ => congrFun h2 _,
    funext fun _ => funext fun _ => congrFun h3 _,
    funext fun _ => funext fun _ => congrFun h4 _,
    funext fun _ => funext fun _ => congrFun h5 _,
    funext fun _ => funext fun _ => funext fun _ => funext fun _ => funext fun _ => congrFun h6 _,
    funext fun _ => funext fun _ => funext fun _ => funext fun _ => funext fun _ => congrFun h7 _,
    funext fun _ => funext fun _ => funext fun _ => funext fun _ => congrFun h8 _,
    funext fun _ => funext fun _ => funext fun _ => congrFun h9 _,
    funext fun _ => funext fun _ => congrFun h10 _,
    funext fun _ => congrFun h11 _,
    funext fun _ => funext fun _ => congrFun h12 _,
    funext fun _ => congrFun h13 _,
    funext fun _ => funext fun _ => congrFun h14 _,
    funext fun _ => congrFun h15 _,
    funext fun _ => funext fun _ => congrFun h16 _,
    funext fun _ => congrFun h17 _,
    funext fun _ => congrFun h18 _,
    funext fun _ => congrFun h19 _,
    funext fun _ => funext fun _ => congrFun h20 _,
    funext fun _ => congrFun h21 _,
    funext fun _ => funext fun _ => congrFun h22 _,
    funext fun _ => funext fun _ => congrFun h23 _,
    funext fun _ => funext fun _ => congrFun h24 _,
    funext fun _ => congrFun h25 _⟩

/-- Where the two memories hold the same data and it fits, the reference's result is the kernel's. -/
theorem results_eq (e : Cert.ReferenceIdeal.Final.data m' c = Cert.KernelIdeal.Arrays.data m c)
    (hX : (Cert.KernelIdeal.Arrays.data m c).Fits) :
    Cert.ReferenceIdeal.Value.res_main_v69 m' c
      = (Cert.KernelIdeal.Gen.dats m 0 c).arrAt 16 Cert.KernelIdeal.cfg0.N := by
  funext i
  have hn : (i 0 : Fin 16384).val < 16384 := (i 0 : Fin 16384).isLt
  have hrow : (i 0 : Fin 16384).val = (i 0 : Fin 16384).val / 512 * 512 + (i 0 : Fin 16384).val % 512 := by omega
  have hi : i = ix2 (i 0 : Fin 16384) (i 1 : Fin 128) := Cert.KernelIdeal.Blocks.ix2_ext rfl rfl
  rw [hi]
  refine (Cert.ReferenceIdeal.Final.final m' c ?_ ?_ ?_ ⟨_, by omega⟩ ⟨_, by omega⟩ (i 0) hrow (i 1)).trans ?_
  · rw [e]; exact hX.kind
  · rw [e]; exact hX.route
  · rw [e]; exact hX.light
  · rw [e]
    exact (Cert.KernelIdeal.Blocks.final m c hX ⟨_, by omega⟩ ⟨_, by omega⟩ (i 0) hrow (i 1)).symm

end Values

/-- Where the precondition holds, the kernel and the reference return the same array. -/
theorem algebraic : Cert.algebraic_KernelIdeal_ReferenceIdeal_pre_finite_and_in_range := by
  intro m ρ m' ρ' hpre hagree
  refine ⟨fun c => (Cert.KernelIdeal.Gen.dats m 0 c).arrAt 16 Cert.KernelIdeal.cfg0.N,
    Cert.KernelIdeal.Value.run_blocks m ρ, ?_⟩
  exact (θ_run Cert.ReferenceIdeal.defs _ _).mono
    (fun _ h c => ⟨(h c).1.trans (results_eq m m' c (data_eq m m' c (hagree c)) (Cert.PreFits.fits m hpre c)), (h c).2⟩)
    (Cert.ReferenceIdeal.Value.run m' ρ')

/-- All the claims. -/
theorem claim : Cert.Claim :=
  ⟨Cert.Kernel.Gen.facts, Cert.KernelIdeal.Gen.facts, Cert.ReferenceIdeal.Gen.facts,
    Cert.Pre_finite_and_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
